-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512 : Shape := ⟨1, ![512]⟩
abbrev S_ : Shape := ⟨0, ![]⟩
abbrev S1024 : Shape := ⟨1, ![1024]⟩
abbrev S8x128 : Shape := ⟨2, ![8, 128]⟩
abbrev S1 : Shape := ⟨1, ![1]⟩
abbrev S511 : Shape := ⟨1, ![511]⟩
abbrev S513x513 : Shape := ⟨2, ![513, 513]⟩
abbrev S64x640 : Shape := ⟨2, ![64, 640]⟩
abbrev S1216x8x128 : Shape := ⟨3, ![1216, 8, 128]⟩
abbrev S1x8x128 : Shape := ⟨3, ![1, 8, 128]⟩
abbrev S192x128 : Shape := ⟨2, ![192, 128]⟩
abbrev S192x1x128 : Shape := ⟨3, ![192, 1, 128]⟩
abbrev S64x128 : Shape := ⟨2, ![64, 128]⟩

abbrev nBuf : Space → Nat
  | .hbm => 14
  | .vmem => 5
  | .smem => 0
  | _ => 0

abbrev bufTy : (tb : Table) → Fin (tcTables nBuf tb) → BufTy
  | .hbm, ⟨0, _⟩ => ⟨S512, .f32⟩
  | .hbm, ⟨1, _⟩ => ⟨S512, .f32⟩
  | .hbm, ⟨2, _⟩ => ⟨S_, .f32⟩
  | .hbm, ⟨3, _⟩ => ⟨S512, .f32⟩
  | .hbm, ⟨4, _⟩ => ⟨S1024, .f32⟩
  | .hbm, ⟨5, _⟩ => ⟨S1024, .f32⟩
  | .hbm, ⟨6, _⟩ => ⟨S8x128, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S511, .f32⟩
  | .hbm, ⟨11, _⟩ => ⟨S1024, .f32⟩
  | .hbm, ⟨12, _⟩ => ⟨S8x128, .f32⟩
  | .hbm, ⟨13, _⟩ => ⟨S513x513, .f32⟩
  | .local _ .vmem, ⟨0, _⟩ => ⟨S8x128, .f32⟩
  | .local _ .vmem, ⟨1, _⟩ => ⟨S8x128, .f32⟩
  | .local _ .vmem, ⟨2, _⟩ => ⟨S64x640, .f32⟩
  | .local _ .vmem, ⟨3, _⟩ => ⟨S64x640, .f32⟩
  | .local _ .vmem, ⟨4, _⟩ => ⟨S1216x8x128, .f32⟩
  | _, _ => ⟨S512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_142 : BitVec 32 := 0#32
  let c128_i32_143 : BitVec 32 := 128#32
  let v320 : BitVec 32 := Scalar.addi c0_i32_142 c128_i32_143
  let c1_i32_144 : BitVec 32 := 1#32
  ⟨c0_i32_142, v320, c1_i32_144⟩
def k0_off1 (k0_t1 : Fin k0_t1_loop.trips) (c1_i32_243 : BitVec 32) : Fin 3 → Nat :=
  let c0_i32_142 : BitVec 32 := 0#32
  let c1_i32_144 : BitVec 32 := 1#32
  let arg5 : BitVec 32 := Scf.iv c0_i32_142 c1_i32_144 k0_t1
  let c8_i32_146 : BitVec 32 := 8#32
  let v322 : BitVec 32 := Scalar.muli arg5 c8_i32_146
  let v532 : BitVec 32 := Scalar.addi v322 c1_i32_243
  let v533 : Index := Scalar.indexCast v532
  let c0_244 : Index := 0#32
  let c0_245 : Index := 0#32
  ![v533.toNat, 0, 0]
def k0_off2 (i : grid0.Coords) : Fin 3 → Nat :=
  let arg0 : BitVec 32 := BitVec.ofNat 32 (i 0).val
  let c64_i32 : BitVec 32 := 64#32
  let v3 : BitVec 32 := Scalar.muli arg0 c64_i32
  let c0_i32_1 : BitVec 32 := 0#32
  let v5 : BitVec 32 := Scalar.addi v3 c0_i32_1
  let v6 : Index := Scalar.indexCast v5
  let c0 : Index := 0#32
  let c0_2 : Index := 0#32
  ![v6.toNat, 0, 0]
def k0_off3 (i : grid0.Coords) : Fin 3 → Nat :=
  let arg0 : BitVec 32 := BitVec.ofNat 32 (i 0).val
  let c64_i32 : BitVec 32 := 64#32
  let v3 : BitVec 32 := Scalar.muli arg0 c64_i32
  let c128_i32_13 : BitVec 32 := 128#32
  let v54 : BitVec 32 := Scalar.addi v3 c128_i32_13
  let v55 : Index := Scalar.indexCast v54
  let c1 : Index := 1#32
  let c0_14 : Index := 0#32
  ![v55.toNat, 1, 0]
def k0_off4 (i : grid0.Coords) : Fin 3 → Nat :=
  let arg0 : BitVec 32 := BitVec.ofNat 32 (i 0).val
  let c64_i32 : BitVec 32 := 64#32
  let v3 : BitVec 32 := Scalar.muli arg0 c64_i32
  let c256_i32 : BitVec 32 := 256#32
  let v103 : BitVec 32 := Scalar.addi v3 c256_i32
  let v104 : Index := Scalar.indexCast v103
  let c2 : Index := 2#32
  let c0_37 : Index := 0#32
  ![v104.toNat, 2, 0]
def k0_off5 (i : grid0.Coords) : Fin 3 → Nat :=
  let arg0 : BitVec 32 := BitVec.ofNat 32 (i 0).val
  let c64_i32 : BitVec 32 := 64#32
  let v3 : BitVec 32 := Scalar.muli arg0 c64_i32
  let c384_i32 : BitVec 32 := 384#32
  let v152 : BitVec 32 := Scalar.addi v3 c384_i32
  let v153 : Index := Scalar.indexCast v152
  let c3 : Index := 3#32
  let c0_60 : Index := 0#32
  ![v153.toNat, 3, 0]
def k0_off6 (i : grid0.Coords) : Fin 3 → Nat :=
  let arg0 : BitVec 32 := BitVec.ofNat 32 (i 0).val
  let c64_i32 : BitVec 32 := 64#32
  let v3 : BitVec 32 := Scalar.muli arg0 c64_i32
  let c512_i32 : BitVec 32 := 512#32
  let v201 : BitVec 32 := Scalar.addi v3 c512_i32
  let v202 : Index := Scalar.indexCast v201
  let c4 : Index := 4#32
  let c0_83 : Index := 0#32
  ![v202.toNat, 4, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S512 : Shape := ⟨1, ![512]⟩
abbrev S_ : Shape := ⟨0, ![]⟩
abbrev S513x513 : Shape := ⟨2, ![513, 513]⟩
abbrev S1 : Shape := ⟨1, ![1]⟩
abbrev S2 : Shape := ⟨1, ![2]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S512, .f32⟩
  | .hbm, ⟨1, _⟩ => ⟨S512, .f32⟩
  | .hbm, ⟨2, _⟩ => ⟨S_, .f32⟩
  | .hbm, ⟨3, _⟩ => ⟨S513x513, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S_, .f32⟩
  | .hbm, ⟨10, _⟩ => ⟨S513x513, .f32⟩
  | .hbm, ⟨11, _⟩ => ⟨S_, .i32⟩
  | .hbm, ⟨12, _⟩ => ⟨S_, .i32⟩
  | .hbm, ⟨13, _⟩ => ⟨S512, .f32⟩
  | .hbm, ⟨14, _⟩ => ⟨S512, .f32⟩
  | .hbm, ⟨15, _⟩ => ⟨S_, .i32⟩
  | .hbm, ⟨16, _⟩ => ⟨S_, .i32⟩
  | .hbm, ⟨17, _⟩ => ⟨S513x513, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1, .f32⟩
  | .hbm, ⟨33, _⟩ => ⟨S_, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x1, .f32⟩
  | .hbm, ⟨59, _⟩ => ⟨S_, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1x1, .f32⟩
  | .hbm, ⟨75, _⟩ => ⟨S_, .f32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i1⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S1x1, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i1⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i1⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S1, .i32⟩
  | .hbm, ⟨110, _⟩ => ⟨S1, .i32⟩
  | .hbm, ⟨111, _⟩ => ⟨S2, .i32⟩
  | .hbm, ⟨112, _⟩ => ⟨S513x513, .f32⟩
  | .hbm, ⟨113, _⟩ => ⟨S_, .i32⟩
  | .hbm, ⟨114, _⟩ => ⟨S_, .i32⟩
  | .hbm, ⟨115, _⟩ => ⟨S513x513, .f32⟩
  | _, _ => ⟨S512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_c_2 : Ref sig .tc := ⟨.hbm, 11, rfl⟩
abbrev main_c_3 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_while0c_c_8 : Ref sig .tc := ⟨.hbm, 18, rfl⟩
abbrev main_while0c_v7 : Ref sig .tc := ⟨.hbm, 19, rfl⟩
abbrev main_while0b_c_8 : Ref sig .tc := ⟨.hbm, 20, rfl⟩
abbrev main_while0b_v7 : Ref sig .tc := ⟨.hbm, 21, rfl⟩
abbrev main_while0b_c_9 : Ref sig .tc := ⟨.hbm, 22, rfl⟩
abbrev main_while0b_v8 : Ref sig .tc := ⟨.hbm, 23, rfl⟩
abbrev main_while0b_c_10 : Ref sig .tc := ⟨.hbm, 24, rfl⟩
abbrev main_while0b_v9 : Ref sig .tc := ⟨.hbm, 25, rfl⟩
abbrev main_while0b_c_11 : Ref sig .tc := ⟨.hbm, 26, rfl⟩
abbrev main_while0b_v10 : Ref sig .tc := ⟨.hbm, 27, rfl⟩
abbrev main_while0b_v11 : Ref sig .tc := ⟨.hbm, 28, rfl⟩
abbrev main_while0b_c_12 : Ref sig .tc := ⟨.hbm, 29, rfl⟩
abbrev main_while0b_v12 : Ref sig .tc := ⟨.hbm, 30, rfl⟩
abbrev main_while0b_v13 : Ref sig .tc := ⟨.hbm, 31, rfl⟩
abbrev main_while0b_v14 : Ref sig .tc := ⟨.hbm, 32, rfl⟩
abbrev main_while0b_v15 : Ref sig .tc := ⟨.hbm, 33, rfl⟩
abbrev main_while0b_c_13 : Ref sig .tc := ⟨.hbm, 34, rfl⟩
abbrev main_while0b_v16 : Ref sig .tc := ⟨.hbm, 35, rfl⟩
abbrev main_while0b_v17 : Ref sig .tc := ⟨.hbm, 36, rfl⟩
abbrev main_while0b_c_14 : Ref sig .tc := ⟨.hbm, 37, rfl⟩
abbrev main_while0b_v18 : Ref sig .tc := ⟨.hbm, 38, rfl⟩
abbrev main_while0b_v19 : Ref sig .tc := ⟨.hbm, 39, rfl⟩
abbrev main_while0b_v20 : Ref sig .tc := ⟨.hbm, 40, rfl⟩
abbrev main_while0b_v21 : Ref sig .tc := ⟨.hbm, 41, rfl⟩
abbrev main_while0b_v22 : Ref sig .tc := ⟨.hbm, 42, rfl⟩
abbrev main_while0b_v23 : Ref sig .tc := ⟨.hbm, 43, rfl⟩
abbrev main_while0b_c_15 : Ref sig .tc := ⟨.hbm, 44, rfl⟩
abbrev main_while0b_v24 : Ref sig .tc := ⟨.hbm, 45, rfl⟩
abbrev main_while0b_v25 : Ref sig .tc := ⟨.hbm, 46, rfl⟩
abbrev main_while0b_v26 : Ref sig .tc := ⟨.hbm, 47, rfl⟩
abbrev main_while0b_c_16 : Ref sig .tc := ⟨.hbm, 48, rfl⟩
abbrev main_while0b_v27 : Ref sig .tc := ⟨.hbm, 49, rfl⟩
abbrev main_while0b_c_17 : Ref sig .tc := ⟨.hbm, 50, rfl⟩
abbrev main_while0b_v28 : Ref sig .tc := ⟨.hbm, 51, rfl⟩
abbrev main_while0b_v29 : Ref sig .tc := ⟨.hbm, 52, rfl⟩
abbrev main_while0b_c_18 : Ref sig .tc := ⟨.hbm, 53, rfl⟩
abbrev main_while0b_v30 : Ref sig .tc := ⟨.hbm, 54, rfl⟩
abbrev main_while0b_c_19 : Ref sig .tc := ⟨.hbm, 55, rfl⟩
abbrev main_while0b_v31 : Ref sig .tc := ⟨.hbm, 56, rfl⟩
abbrev main_while0b_v32 : Ref sig .tc := ⟨.hbm, 57, rfl⟩
abbrev main_while0b_v33 : Ref sig .tc := ⟨.hbm, 58, rfl⟩
abbrev main_while0b_v34 : Ref sig .tc := ⟨.hbm, 59, rfl⟩
abbrev main_while0b_c_20 : Ref sig .tc := ⟨.hbm, 60, rfl⟩
abbrev main_while0b_v35 : Ref sig .tc := ⟨.hbm, 61, rfl⟩
abbrev main_while0b_v36 : Ref sig .tc := ⟨.hbm, 62, rfl⟩
abbrev main_while0b_v37 : Ref sig .tc := ⟨.hbm, 63, rfl⟩
abbrev main_while0b_c_21 : Ref sig .tc := ⟨.hbm, 64, rfl⟩
abbrev main_while0b_v38 : Ref sig .tc := ⟨.hbm, 65, rfl⟩
abbrev main_while0b_c_22 : Ref sig .tc := ⟨.hbm, 66, rfl⟩
abbrev main_while0b_v39 : Ref sig .tc := ⟨.hbm, 67, rfl⟩
abbrev main_while0b_v40 : Ref sig .tc := ⟨.hbm, 68, rfl⟩
abbrev main_while0b_c_23 : Ref sig .tc := ⟨.hbm, 69, rfl⟩
abbrev main_while0b_v41 : Ref sig .tc := ⟨.hbm, 70, rfl⟩
abbrev main_while0b_c_24 : Ref sig .tc := ⟨.hbm, 71, rfl⟩
abbrev main_while0b_v42 : Ref sig .tc := ⟨.hbm, 72, rfl⟩
abbrev main_while0b_v43 : Ref sig .tc := ⟨.hbm, 73, rfl⟩
abbrev main_while0b_v44 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_c_25 : Ref sig .tc := ⟨.hbm, 78, rfl⟩
abbrev main_while0b_v48 : Ref sig .tc := ⟨.hbm, 79, rfl⟩
abbrev main_while0b_c_26 : Ref sig .tc := ⟨.hbm, 80, rfl⟩
abbrev main_while0b_v49 : Ref sig .tc := ⟨.hbm, 81, rfl⟩
abbrev main_while0b_v50 : Ref sig .tc := ⟨.hbm, 82, rfl⟩
abbrev main_while0b_c_27 : Ref sig .tc := ⟨.hbm, 83, rfl⟩
abbrev main_while0b_v51 : Ref sig .tc := ⟨.hbm, 84, rfl⟩
abbrev main_while0b_c_28 : Ref sig .tc := ⟨.hbm, 85, rfl⟩
abbrev main_while0b_v52 : Ref sig .tc := ⟨.hbm, 86, rfl⟩
abbrev main_while0b_v53 : Ref sig .tc := ⟨.hbm, 87, rfl⟩
abbrev main_while0b_v54 : Ref sig .tc := ⟨.hbm, 88, rfl⟩
abbrev main_while0b_v55 : Ref sig .tc := ⟨.hbm, 89, rfl⟩
abbrev main_while0b_v56 : Ref sig .tc := ⟨.hbm, 90, rfl⟩
abbrev main_while0b_v57 : Ref sig .tc := ⟨.hbm, 91, rfl⟩
abbrev main_while0b_v58 : Ref sig .tc := ⟨.hbm, 92, rfl⟩
abbrev main_while0b_c_29 : Ref sig .tc := ⟨.hbm, 93, rfl⟩
abbrev main_while0b_v59 : Ref sig .tc := ⟨.hbm, 94, rfl⟩
abbrev main_while0b_c_30 : Ref sig .tc := ⟨.hbm, 95, rfl⟩
abbrev main_while0b_v60 : Ref sig .tc := ⟨.hbm, 96, rfl⟩
abbrev main_while0b_c_31 : Ref sig .tc := ⟨.hbm, 97, rfl⟩
abbrev main_while0b_v61 : Ref sig .tc := ⟨.hbm, 98, rfl⟩
abbrev main_while0b_c_32 : Ref sig .tc := ⟨.hbm, 99, rfl⟩
abbrev main_while0b_v62 : Ref sig .tc := ⟨.hbm, 100, rfl⟩
abbrev main_while0b_v63 : Ref sig .tc := ⟨.hbm, 101, rfl⟩
abbrev main_while0b_c_33 : Ref sig .tc := ⟨.hbm, 102, rfl⟩
abbrev main_while0b_v64 : Ref sig .tc := ⟨.hbm, 103, rfl⟩
abbrev main_while0b_c_34 : Ref sig .tc := ⟨.hbm, 104, rfl⟩
abbrev main_while0b_v65 : Ref sig .tc := ⟨.hbm, 105, rfl⟩
abbrev main_while0b_v66 : Ref sig .tc := ⟨.hbm, 106, rfl⟩
abbrev main_while0b_v67 : Ref sig .tc := ⟨.hbm, 107, rfl⟩
abbrev main_while0b_v68 : Ref sig .tc := ⟨.hbm, 108, rfl⟩
abbrev main_while0b_v69 : Ref sig .tc := ⟨.hbm, 109, rfl⟩
abbrev main_while0b_v70 : Ref sig .tc := ⟨.hbm, 110, rfl⟩
abbrev main_while0b_v71 : Ref sig .tc := ⟨.hbm, 111, rfl⟩
abbrev main_while0b_v72 : Ref sig .tc := ⟨.hbm, 112, rfl⟩
abbrev main_while0b_c_35 : Ref sig .tc := ⟨.hbm, 113, rfl⟩
abbrev main_while0b_v73 : Ref sig .tc := ⟨.hbm, 114, rfl⟩
abbrev main_v6 : Ref sig .tc := ⟨.hbm, 115, rfl⟩

abbrev nD : Nat := 1
abbrev τ : Topo := Topo.v7x

variable {F : FTy → Type} [FloatOps F]

abbrev main_while0_count : Scf.Loop 32 := ⟨0#32, 262144#32, 1#32⟩
-- ==== Proof.Trip.lean ====
/- One trip of the kernel's loop over diagonals. A trip computes eight diagonals of the table, each of them shifted right
   by 0, 1, …: diagonal `t` of the trip is made at the shifts `a ≤ 8 - t`, and the copy at shift `a` of a diagonal needs
   the copies at shifts `a` and `a + 1` of the diagonal before it and the copy at shift `a + 1` of the one before that.
   `shiftRight` is the shift, `cells` one diagonal's arithmetic, `diagonals` the recursion over the diagonals of a trip;
   the trip's yield and the pieces it stores are those of the recursion. -/
module

public import proofs.«01_k».proof.Proof.Gen.KernelIdeal.Loops

@[expose] public section

noncomputable section

namespace Cert.Diagonals

open Idealize.ShloMosaic Idealize.ShloMosaic.TcCoe
open Cert.KernelIdeal Cert.KernelIdeal.Gen

variable {F : FTy → Type} [FloatOps F]

/-- The flat 1024-vector held in 8 rows of 128 lanes, shifted right by `a` places (`lane` holds each entry's lane). -/
def shiftRight (lane : IVec S8x128 32) : ℕ → FVec F S8x128 .f32 → FVec F S8x128 .f32
  | 0, v => v
  | a + 1, v =>
    select (cmpi .slt lane (broadcast S8x128 (BitVec.ofNat 32 (a + 1))))
      (dynamicRotate 0 1#32 none (dynamicRotate 1 (BitVec.ofNat 32 (a + 1)) none v rotates_S8x128_d1) rotates_S8x128_d0)
      (dynamicRotate 1 (BitVec.ofNat 32 (a + 1)) none v rotates_S8x128_d1)

/-- One diagonal's cells from the diagonal before (`p`: the cells above, `q`: the cells on the left), the one before that
    (`r`), and the two sequences' entries `x`, `y`; the number 99999 at the places whose `place` is not below `bound`. -/
def cells (place : IVec S8x128 32) (bound : BitVec 32) (x y p q r : FVec F S8x128 .f32) : FVec F S8x128 .f32 :=
  select (cmpi .ult place (broadcast S8x128 bound))
    (addf (mulf (subf x y) (subf x y)) (minimumf (minimumf p q) r))
    (broadcast S8x128 (Scalar.ofBits .f32 0x47C34F80#32))

/-- The last two diagonals after `t` diagonals of a trip that starts after diagonal `base`, at every shift. -/
def diagonals (lane col : IVec S8x128 32) (base : BitVec 32) (x y p q : FVec F S8x128 .f32) :
    ℕ → (ℕ → FVec F S8x128 .f32) × (ℕ → FVec F S8x128 .f32)
  | 0 => (fun a => shiftRight lane a p, fun a => shiftRight lane a q)
  | t + 1 =>
    (fun a => cells (subi col (broadcast S8x128 (BitVec.ofNat 32 (a + 1))))
        (Scalar.subi (Scalar.addi base (BitVec.ofNat 32 (t + 1))) 1#32)
        (shiftRight lane (t + 1 + a) x) (shiftRight lane a y)
        ((diagonals lane col base x y p q t).1 a) ((diagonals lane col base x y p q t).1 (a + 1))
        ((diagonals lane col base x y p q t).2 (a + 1)),
     (diagonals lane col base x y p q t).1)

/-- The diagonal a trip that starts after diagonal `8 k` stores at its `t`-th store. -/
def stored (lane col : IVec S8x128 32) (k : ℕ) (y : FVec F S8x128 .f32)
    (acc : FVec F S8x128 .f32 × FVec F S8x128 .f32 × FVec F S8x128 .f32) (t : ℕ) : FVec F S8x128 .f32 :=
  (diagonals lane col (Scalar.muli (Scf.iv 0#32 1#32 k) 8#32) acc.2.2 y acc.1 acc.2.1 t).1 0

section
variable (𝒱 : Variants) (c : Dev nD) (bd : Option 𝒱.V) (i : grid0.Coords)
  (arg1 : Memref sig .tc .vmem S8x128 .f32) (harg1 : arg1.IsWhole)
  (arg2 : Memref sig .tc .vmem S8x128 .f32) (harg2 : arg2.IsWhole)
  (arg3 : Memref sig .tc .vmem S64x640 .f32) (harg3 : arg3.IsWhole)
  (arg4 : Memref sig .tc .vmem S1216x8x128 .f32) (harg4 : arg4.IsWhole)
  (h1 : k0_cond1 i = 1#1) (lane col : IVec S8x128 32) (y : FVec F S8x128 .f32)
  (k : Fin k0_t1_loop.trips) (acc : FVec F S8x128 .f32 × FVec F S8x128 .f32 × FVec F S8x128 .f32)

/-- The piece a trip's store number `r` (counted from 0) writes: one diagonal, at its own row of the scratch array. -/
def piece (r : Fin 8) : View.Piece (Elt F) S1216x8x128 .f32 :=
  ⟨Rect.unit (s := S1216x8x128) (k0_off1 k (BitVec.ofNat 32 (1 + r.val))) S1x8x128.size (k0_off1_inb i k h1 r),
    shapeCast S1x8x128 (shapeCast S1x8x128 (stored lane col k.val y acc (1 + r.val)) shapeCasts_S8x128_S1x8x128)
      shapeCasts_S1x8x128_S1x8x128⟩

set_option maxRecDepth 16384 in
set_option maxHeartbeats 4000000 in
/-- What a trip hands to the next (its last two diagonals, and the first sequence shifted eight places on) and what it
    stores, the last store first. -/
theorem trip_values :
    tripR_k0_t1 (F := F) 𝒱 c bd i arg1 harg1 arg2 harg2 arg3 harg3 arg4 harg4 h1 lane col y (shiftRight lane 1 y)
        (shiftRight lane 2 y) (shiftRight lane 3 y) (shiftRight lane 4 y) (dynamicRotate 1 5#32 none y rotates_S8x128_d1) k acc
      = (stored lane col k.val y acc 8, stored lane col k.val y acc 7, shiftRight lane 8 acc.2.2)
    ∧ tripL_k0_t1 (F := F) 𝒱 c bd i arg1 harg1 arg2 harg2 arg3 harg3 arg4 harg4 h1 lane col y (shiftRight lane 1 y)
        (shiftRight lane 2 y) (shiftRight lane 3 y) (shiftRight lane 4 y) (dynamicRotate 1 5#32 none y rotates_S8x128_d1) k acc
      = [piece i h1 lane col y k acc 7, piece i h1 lane col y k acc 6, piece i h1 lane col y k acc 5,
         piece i h1 lane col y k acc 4, piece i h1 lane col y k acc 3, piece i h1 lane col y k acc 2,
         piece i h1 lane col y k acc 1, piece i h1 lane col y k acc 0] := by
  unfold tripR_k0_t1 tripL_k0_t1 trip_k0_t1
  dsimp only [stored, piece, Fin.isValue, Fin.val_zero, Fin.val_one, Fin.val_two, Nat.reduceAdd, Fin.reduceFinMk]
  simp only [
    diagonals, cells, shiftRight, trip_k0_t1.sl.r, trip_k0_t1.sl.r_1, trip_k0_t1.sl.r_2, trip_k0_t1.sl.r_3,
    trip_k0_t1.sl.r_4, trip_k0_t1.sl.r_5, trip_k0_t1.sl.r_6, trip_k0_t1.sl.r_7, trip_k0_t1.sl.r_8,
    trip_k0_t1.sl.r_9, trip_k0_t1.sl.r_10, trip_k0_t1.sl.r_11, trip_k0_t1.sl.r_12, trip_k0_t1.sl.r_13,
    trip_k0_t1.sl.r_14, trip_k0_t1.sl.r_15, trip_k0_t1.sl.r_16, trip_k0_t1.sl.r_17, trip_k0_t1.sl.r_18,
    trip_k0_t1.sl.r_19, trip_k0_t1.sl.r_20, trip_k0_t1.sl.r_21, trip_k0_t1.sl.r_22, trip_k0_t1.sl.r_23,
    trip_k0_t1.sl.r_24, trip_k0_t1.sl.r_25, trip_k0_t1.sl.r_26, trip_k0_t1.sl.r_27, trip_k0_t1.sl.r_28,
    trip_k0_t1.sl.r_29, trip_k0_t1.sl.r_30, trip_k0_t1.sl.r_31, trip_k0_t1.sl.r_32, trip_k0_t1.sl.r_33,
    trip_k0_t1.sl.r_34, trip_k0_t1.sl.r_35, trip_k0_t1.sl.r_36, trip_k0_t1.sl.r_37, trip_k0_t1.sl.r_38,
    trip_k0_t1.sl.r_39, trip_k0_t1.sl.r_40, trip_k0_t1.sl.r_41, trip_k0_t1.sl.r_42, trip_k0_t1.sl.r_43,
    trip_k0_t1.sl.r_44, trip_k0_t1.sl.r_45, trip_k0_t1.sl.r_46, trip_k0_t1.sl.r_47, trip_k0_t1.sl.r_48,
    trip_k0_t1.sl.arg5, trip_k0_t1.sl.v322, trip_k0_t1.sl.v525, trip_k0_t1.sl.v708, trip_k0_t1.sl.v323,
    trip_k0_t1.sl.v324, trip_k0_t1.sl.v325, trip_k0_t1.sl.v326, trip_k0_t1.sl.v327, trip_k0_t1.sl.v328,
    trip_k0_t1.sl.v329, trip_k0_t1.sl.v330, trip_k0_t1.sl.v331, trip_k0_t1.sl.v332, trip_k0_t1.sl.v333,
    trip_k0_t1.sl.v334, trip_k0_t1.sl.v335, trip_k0_t1.sl.v336, trip_k0_t1.sl.v337, trip_k0_t1.sl.v338,
    trip_k0_t1.sl.v339, trip_k0_t1.sl.v340, trip_k0_t1.sl.v341, trip_k0_t1.sl.v342, trip_k0_t1.sl.v343,
    trip_k0_t1.sl.v344, trip_k0_t1.sl.v345, trip_k0_t1.sl.v346, trip_k0_t1.sl.v347, trip_k0_t1.sl.v348,
    trip_k0_t1.sl.v349, trip_k0_t1.sl.v350, trip_k0_t1.sl.v351, trip_k0_t1.sl.v352, trip_k0_t1.sl.v353,
    trip_k0_t1.sl.v354, trip_k0_t1.sl.v355, trip_k0_t1.sl.v356, trip_k0_t1.sl.v357, trip_k0_t1.sl.v358,
    trip_k0_t1.sl.v359, trip_k0_t1.sl.v360, trip_k0_t1.sl.v361, trip_k0_t1.sl.v362, trip_k0_t1.sl.v363,
    trip_k0_t1.sl.v364, trip_k0_t1.sl.v367, trip_k0_t1.sl.v368, trip_k0_t1.sl.v369, trip_k0_t1.sl.v372,
    trip_k0_t1.sl.v373, trip_k0_t1.sl.v374, trip_k0_t1.sl.v377, trip_k0_t1.sl.v378, trip_k0_t1.sl.v379,
    trip_k0_t1.sl.v382, trip_k0_t1.sl.v383, trip_k0_t1.sl.v384, trip_k0_t1.sl.v387, trip_k0_t1.sl.v388,
    trip_k0_t1.sl.v389, trip_k0_t1.sl.v392, trip_k0_t1.sl.v393, trip_k0_t1.sl.v394, trip_k0_t1.sl.v397,
    trip_k0_t1.sl.v398, trip_k0_t1.sl.v399, trip_k0_t1.sl.v402, trip_k0_t1.sl.v403, trip_k0_t1.sl.v404,
    trip_k0_t1.sl.v407, trip_k0_t1.sl.v408, trip_k0_t1.sl.v409, trip_k0_t1.sl.v412, trip_k0_t1.sl.v413,
    trip_k0_t1.sl.v414, trip_k0_t1.sl.v417, trip_k0_t1.sl.v418, trip_k0_t1.sl.v419, trip_k0_t1.sl.v422,
    trip_k0_t1.sl.v423, trip_k0_t1.sl.v424, trip_k0_t1.sl.v427, trip_k0_t1.sl.v428, trip_k0_t1.sl.v429,
    trip_k0_t1.sl.v432, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19, k0_pay20,
    k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40,
    k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90,
    k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108
  ]
  exact ⟨trivial, rfl⟩

end

end Cert.Diagonals

end
-- ==== Proof.Table.lean ====
/- The table of dynamic time warping, as both programs compute it, and its anti-diagonals. `table x y i j` is the cell in
   row `i` and column `j`; a cell inside is the squared difference of its two sequence entries plus the least of the cell
   above, the cell on the left and the cell above on the left; the border holds the number 99999 but for a 0 at the corner.
   `diagonal x y d j` is the cell in column `j` of the anti-diagonal on which row and column add up to `d`. -/
module

public import Idealize.ShloMosaic.PureOps
public import Idealize.ShloMosaic.Lib.PointwiseCore

@[expose] public section

noncomputable section

namespace Cert.Dtw

open Idealize.ShloMosaic

variable {F : FTy → Type} [FloatOps F]

/-- The number 99999, which stands for "not reached". -/
def far : F .f32 := Scalar.ofBits .f32 0x47C34F80#32

/-- The number 0, at the table's corner. -/
def start : F .f32 := Scalar.ofBits .f32 0x00000000#32

/-- A cell of the table, from its two sequence entries and the cells above, on the left, and above on the left. -/
def cell (x y up left diag : F .f32) : F .f32 :=
  FloatOps.addf (FloatOps.mulf (FloatOps.subf x y) (FloatOps.subf x y))
    (FloatOps.minimumf (FloatOps.minimumf up left) diag)

/-- The table of the sequences `x` and `y`. -/
def table (x y : ℕ → F .f32) : ℕ → ℕ → F .f32
  | 0, 0 => start
  | 0, _ + 1 => far
  | _ + 1, 0 => far
  | i + 1, j + 1 => cell (x i) (y j) (table x y i (j + 1)) (table x y (i + 1) j) (table x y i j)

/-- Column `j` of anti-diagonal `d`; beyond the anti-diagonal's last column, 99999. -/
def diagonal (x y : ℕ → F .f32) (d j : ℕ) : F .f32 := if j ≤ d then table x y (d - j) j else far

/-- A vector of 512 entries as a sequence, zero past its end. -/
def seqOf (v : FVec F ⟨1, ![512]⟩ .f32) (i : ℕ) : F .f32 :=
  if h : i < 512 then v (ix1 ⟨i, h⟩) else Scalar.ofBits .f32 0x00000000#32

variable (x y : ℕ → F .f32)

theorem diagonal_add (i j : ℕ) : diagonal x y (i + j) j = table x y i j := by
  rw [diagonal, if_pos (Nat.le_add_left j i), Nat.add_sub_cancel]

/-- The anti-diagonal of the corner: a 0, and 99999 everywhere else. -/
theorem diagonal_zero (j : ℕ) : diagonal x y 0 j = if j = 0 then start else far := by
  rcases j with _ | j
  · rw [if_pos rfl, diagonal, if_pos le_rfl, table]
  · rw [if_neg (Nat.succ_ne_zero j), diagonal, if_neg (Nat.not_succ_le_zero j)]

/-- On and beyond the border, an anti-diagonal other than the corner's holds 99999. -/
theorem diagonal_outside {d j : ℕ} (hd : 1 ≤ d) (h : ¬(1 ≤ j ∧ j < d)) : diagonal x y d j = far := by
  obtain ⟨d, rfl⟩ : ∃ e, d = e + 1 := ⟨d - 1, by omega⟩
  rcases j with _ | j
  · rw [diagonal, if_pos (Nat.zero_le _), Nat.sub_zero, table]
  · by_cases hj : j + 1 = d + 1
    · rw [hj, diagonal, if_pos le_rfl, Nat.sub_self, table]
    · rw [diagonal, if_neg (by omega)]

/-- Inside, a cell comes from the two anti-diagonals before its own. -/
theorem diagonal_inside {d j : ℕ} (h : 1 ≤ j) (hj : j < d) :
    diagonal x y d j = cell (x (d - j - 1)) (y (j - 1)) (diagonal x y (d - 1) j) (diagonal x y (d - 1) (j - 1))
      (diagonal x y (d - 2) (j - 1)) := by
  obtain ⟨j, rfl⟩ : ∃ k, j = k + 1 := ⟨j - 1, by omega⟩
  obtain ⟨i, rfl⟩ : ∃ i, d = i + 1 + (j + 1) := ⟨d - j - 2, by omega⟩
  rw [diagonal_add, table, show i + 1 + (j + 1) - 1 = i + (j + 1) by omega, diagonal_add,
    show i + (j + 1) = i + 1 + j by omega, show j + 1 - 1 = j by omega, diagonal_add,
    show i + 1 + (j + 1) - 2 = i + j by omega, diagonal_add, show i + 1 + (j + 1) - (j + 1) - 1 = i by omega]

end Cert.Dtw

end
-- ==== Proof.Lanes.lean ====
/- What a trip's diagonals hold, place by place. An array of 8 rows of 128 lanes is read as one flat vector of 1024 places.
   A shift right by `a` moves place `n` to place `n + a`; from the two diagonals before, shifted, the trip's arithmetic
   makes the next one, shifted (`diagonals_flat`). -/
module

public import proofs.«01_k».proof.Proof.Trip
public import proofs.«01_k».proof.Proof.Table
public import Idealize.ShloMosaic.Lib.PointwiseCore
public import Idealize.ShloMosaic.Lib.WordArith.Masks

@[expose] public section

noncomputable section

namespace Cert.Diagonals

open Idealize.ShloMosaic Idealize.ShloMosaic.TcCoe
open Cert.KernelIdeal Cert.KernelIdeal.Gen Cert.Dtw

variable {F : FTy → Type} [FloatOps F]

/-- Place `n` of the flat vector held in 8 rows of 128 lanes (counted around its 1024 places). -/
def flat (v : FVec F S8x128 .f32) (n : ℕ) : F .f32 :=
  v (ix2 (⟨n / 128 % 8, Nat.mod_lt _ (by decide)⟩ : Fin 8) (⟨n % 128, Nat.mod_lt _ (by decide)⟩ : Fin 128))

theorem flat_congr (v : FVec F S8x128 .f32) (n m : ℕ) (h : n % 1024 = m % 1024) : flat v n = flat v m := by
  unfold flat
  refine congrArg v (congrArg₂ ix2 (Fin.ext ?_) (Fin.ext ?_)) <;> simp only <;> omega

/-- The entry in row `r`, lane `l` is the one at place `128 r + l`. -/
theorem flat_row (v : FVec F S8x128 .f32) (r : Fin 8) (l : Fin 128) : flat v (128 * r.val + l.val) = v (ix2 r l) := by
  have := r.isLt; have := l.isLt
  unfold flat
  refine congrArg v (congrArg₂ ix2 (Fin.ext ?_) (Fin.ext ?_)) <;> simp only <;> omega

theorem select_ofBool {α : Type} (b : Bool) (p q : α) : Scalar.select (BitVec.ofBool b) p q = if b then p else q := by
  cases b <;> rfl

theorem slt_ofNat {m a : ℕ} (hm : m < 2 ^ 31) (ha : a < 2 ^ 31) :
    (BitVec.ofNat 32 m).slt (BitVec.ofNat 32 a) = decide (m < a) := by
  rw [BitVec.slt, decide_eq_decide, BitVec.toInt_eq_toNat_of_lt (by rw [BitVec.toNat_ofNat]; omega),
    BitVec.toInt_eq_toNat_of_lt (by rw [BitVec.toNat_ofNat]; omega), BitVec.toNat_ofNat, BitVec.toNat_ofNat]
  omega

/-- A shift right by at most 8 places, at a place. -/
theorem flat_shiftRight {lane : IVec S8x128 32} (hl : ∀ p, lane p = BitVec.ofNat 32 (p 1).val) (v : FVec F S8x128 .f32)
    {a : ℕ} (ha : a ≤ 8) (n : ℕ) : flat (shiftRight lane a v) n = flat v (n + (1024 - a)) := by
  rcases a with _ | a
  · exact flat_congr v _ _ (by omega)
  · have hb : (BitVec.ofNat 32 (a + 1)).toNat = a + 1 := by rw [BitVec.toNat_ofNat]; omega
    unfold flat
    pointwise [shiftRight]
    rw [hl]
    simp only [ix2_1, IntOp.cmpi]
    rw [select_ofBool, slt_ofNat (by omega) (by omega)]
    by_cases h : n % 128 < a + 1
    · rw [if_pos (decide_eq_true h)]
      refine congrArg v (congrArg₂ ix2 (Fin.ext ?_) (Fin.ext ?_)) <;> simp only [hb] <;> omega
    · rw [if_neg (by simpa using h)]
      refine congrArg v (congrArg₂ ix2 (Fin.ext ?_) (Fin.ext ?_)) <;> simp only [hb] <;> omega

/-- One diagonal's arithmetic at a place: the bound is compared as unsigned words, so the shift's first place, column 0,
    whose word wraps, is not below it. -/
theorem flat_cells {col : IVec S8x128 32} (hc : ∀ p, col p = BitVec.ofNat 32 (128 * (p 0).val + (p 1).val))
    (x y p q r : FVec F S8x128 .f32) {a d n : ℕ} (hn : n < 1024) (han : a ≤ n) (hd : d < 2 ^ 31)
    {bound : BitVec 32} (hb : bound.toNat = d) :
    flat (cells (subi col (broadcast S8x128 (BitVec.ofNat 32 (a + 1)))) bound x y p q r) n
      = if 1 ≤ n - a ∧ n - a - 1 < d then cell (flat x n) (flat y n) (flat p n) (flat q n) (flat r n) else far := by
  unfold flat cell far
  pointwise [cells]
  rw [hc]
  simp only [ix2_0, ix2_1, IntOp.cmpi, IntOp.subi]
  rw [select_ofBool, BitVec.ult, hb, BitVec.toNat_sub, BitVec.toNat_ofNat, BitVec.toNat_ofNat]
  refine if_congr ?_ rfl rfl
  rw [decide_eq_true_iff]
  omega

variable {lane col : IVec S8x128 32} (hl : ∀ p, lane p = BitVec.ofNat 32 (p 1).val)
  (hc : ∀ p, col p = BitVec.ofNat 32 (128 * (p 0).val + (p 1).val))

include hl hc in
/-- The diagonals of a trip. Before it, the vectors hold diagonals `base` and `base - 1`, the second sequence from place 1
    on, and the first sequence backwards, moved on by `base` places. After `t` diagonals, diagonal `base + t` and the one
    before stand, shifted by `a`, from place `a` on. -/
theorem diagonals_flat (xs ys : ℕ → F .f32) (x y p q : FVec F S8x128 .f32) {base : ℕ} (hbase : base ≤ 1016)
    {w : BitVec 32} (hw : w.toNat = base)
    (hx : ∀ n, n < 1024 → flat x n = xs ((1023 - n + base) % 1024))
    (hy : ∀ n, 1 ≤ n → n < 1024 → flat y n = ys (n - 1))
    (hp : ∀ n, n < 1024 → flat p n = diagonal xs ys base n)
    (hq : 1 ≤ base → ∀ n, n < 1024 → flat q n = diagonal xs ys (base - 1) n) (t : ℕ) :
    (∀ a n, t + a ≤ 8 → a ≤ n → n < 1024 →
        flat ((diagonals lane col w x y p q t).1 a) n = diagonal xs ys (base + t) (n - a))
    ∧ (∀ a n, t + a ≤ 8 → a ≤ n → n < 1024 → 1 ≤ base + t →
        flat ((diagonals lane col w x y p q t).2 a) n = diagonal xs ys (base + t - 1) (n - a)) := by
  have shifted : ∀ (v : FVec F S8x128 .f32) (a n : ℕ), a ≤ 8 → a ≤ n → n < 1024 →
      flat (shiftRight lane a v) n = flat v (n - a) := fun v a n ha h hn => by
    rw [flat_shiftRight hl v ha]; exact flat_congr v _ _ (by omega)
  induction t with
  | zero =>
    refine ⟨fun a n ha h hn => ?_, fun a n ha h hn hb => ?_⟩
    · exact (shifted p a n (by omega) h hn).trans (hp _ (by omega))
    · exact (shifted q a n (by omega) h hn).trans (hq hb _ (by omega))
  | succ t ih =>
    obtain ⟨ih1, ih2⟩ := ih
    refine ⟨fun a n ha h hn => ?_, fun a n ha h hn _ => ?_⟩
    · have hbound : (Scalar.subi (Scalar.addi w (BitVec.ofNat 32 (t + 1))) 1#32).toNat = base + t := by
        simp only [Scalar.subi, Scalar.addi, IntOp.subi, IntOp.addi, BitVec.toNat_sub, BitVec.toNat_add, hw, BitVec.toNat_ofNat]
        omega
      refine (flat_cells hc _ _ _ _ _ hn h (by omega) hbound).trans ?_
      by_cases hin : 1 ≤ n - a ∧ n - a - 1 < base + t
      · rw [if_pos hin, ih1 a n (by omega) h hn, ih1 (a + 1) n (by omega) (by omega) hn,
          ih2 (a + 1) n (by omega) (by omega) hn (by omega), shifted y a n (by omega) h hn, hy _ (by omega) (by omega),
          flat_shiftRight hl x (by omega), flat_congr x _ ((n + (1024 - (t + 1 + a))) % 1024) (by omega), hx _ (by omega),
          diagonal_inside xs ys (d := base + (t + 1)) (j := n - a) (by omega) (by omega)]
        congr 2 <;> first | omega | (congr 1; omega)
      · rw [if_neg hin, diagonal_outside xs ys (by omega) (by omega)]
    · exact ih1 a n (by omega) h hn

end Cert.Diagonals

end
-- ==== Proof.Loop.lean ====
/- What the kernel's loop over diagonals leaves in the scratch array: row `d` holds anti-diagonal `d` of the table, for every
   `d` the loop has come to. The loop carries the last two diagonals and the first sequence backwards, moved on by eight
   places a trip. -/
module

public import proofs.«01_k».proof.Proof.Lanes

@[expose] public section

noncomputable section

namespace Cert.Diagonals

open Idealize.ShloMosaic Idealize.ShloMosaic.TcCoe
open Cert.KernelIdeal Cert.KernelIdeal.Gen Cert.Dtw

variable {F : FTy → Type} [FloatOps F]

/-- The scratch array with an anti-diagonal of the table in every row. -/
def skewed (xs ys : ℕ → F .f32) : S1216x8x128.Idx → Elt F .f32 :=
  fun p => diagonal xs ys (p 0).val (128 * (p 1).val + (p 2).val)

/-- The state of the loop before trip `k`: diagonals `8 k` and `8 k - 1`, and the first sequence backwards. -/
structure Carried (xs ys : ℕ → F .f32) (k : ℕ) (acc : FVec F S8x128 .f32 × FVec F S8x128 .f32 × FVec F S8x128 .f32) :
    Prop where
  last : ∀ n, n < 1024 → flat acc.1 n = diagonal xs ys (8 * k) n
  before : 1 ≤ k → ∀ n, n < 1024 → flat acc.2.1 n = diagonal xs ys (8 * k - 1) n
  backwards : ∀ n, n < 1024 → flat acc.2.2 n = xs ((1023 - n + 8 * k) % 1024)

/-- A vector as the one row a store writes. -/
theorem row_of_one (v : FVec F S8x128 .f32) (z : S1x8x128.Idx) :
    shapeCast S1x8x128 (shapeCast S1x8x128 v shapeCasts_S8x128_S1x8x128) shapeCasts_S1x8x128_S1x8x128 z
      = v (ix2 (⟨(z 1).val, (z 1).isLt⟩ : Fin 8) (⟨(z 2).val, (z 2).isLt⟩ : Fin 128)) := by
  idx_vars z
  pointwise []

theorem trips_eq : k0_t1_loop.trips = 128 := rfl

section
variable (𝒱 : Variants) (c : Dev nD) (bd : Option 𝒱.V) (i : grid0.Coords)
  (arg1 : Memref sig .tc .vmem S8x128 .f32) (harg1 : arg1.IsWhole)
  (arg2 : Memref sig .tc .vmem S8x128 .f32) (harg2 : arg2.IsWhole)
  (arg3 : Memref sig .tc .vmem S64x640 .f32) (harg3 : arg3.IsWhole)
  (arg4 : Memref sig .tc .vmem S1216x8x128 .f32) (harg4 : arg4.IsWhole)
  (h1 : k0_cond1 i = 1#1) {lane col : IVec S8x128 32}
  (hl : ∀ p, lane p = BitVec.ofNat 32 (p 1).val)
  (hc : ∀ p, col p = BitVec.ofNat 32 (128 * (p 0).val + (p 1).val))
  (xs ys : ℕ → F .f32) (y : FVec F S8x128 .f32) (hy : ∀ n, 1 ≤ n → n < 1024 → flat y n = ys (n - 1))

/-- The row of the scratch array a trip's store fills. -/
theorem mem_piece (k : Fin k0_t1_loop.trips) (acc : FVec F S8x128 .f32 × FVec F S8x128 .f32 × FVec F S8x128 .f32)
    (r : Fin 8) (p : S1216x8x128.Idx) :
    p ∈ (piece i h1 lane col y k acc r).1.set ↔ (p 0).val = 8 * k.val + r.val + 1 := by
  have h2 := (p 1).isLt; have h3 := (p 2).isLt
  simp only [piece, Rect.mem_set_unit, k0_off1_eq]
  constructor
  · intro h
    have h0 := h 0
    simp at h0
    omega
  · intro h a
    fin_cases a <;> simp at h2 h3 ⊢ <;> omega

include hl hc hy in
/-- The diagonals a trip makes, from the state before it. -/
theorem stored_flat {k : ℕ} (hk : k < 128) {acc : FVec F S8x128 .f32 × FVec F S8x128 .f32 × FVec F S8x128 .f32}
    (h : Carried xs ys k acc) {t : ℕ} (ht : t ≤ 8) (n : ℕ) (hn : n < 1024) :
    flat (stored lane col k y acc t) n = diagonal xs ys (8 * k + t) n := by
  have hw : (Scalar.muli (Scf.iv 0#32 1#32 k) 8#32).toNat = 8 * k := by
    simp only [Scalar.muli, IntOp.muli, BitVec.toNat_mul, WordArith.toNat_iv_zero_one k (by omega), BitVec.toNat_ofNat]
    omega
  exact (diagonals_flat hl hc xs ys acc.2.2 y acc.1 acc.2.1 (by omega) hw h.backwards hy h.last
    (fun hb => h.before (by omega)) t).1 0 n (by omega) (Nat.zero_le _) hn

/-- What a store writes is its diagonal. -/
theorem piece_agrees (k : Fin k0_t1_loop.trips) (acc : FVec F S8x128 .f32 × FVec F S8x128 .f32 × FVec F S8x128 .f32)
    (r : Fin 8)
    (hv : ∀ n, n < 1024 → flat (stored lane col k.val y acc (1 + r.val)) n = diagonal xs ys (8 * k.val + (1 + r.val)) n)
    (z : (piece i h1 lane col y k acc r).1.shape.Idx) :
    (piece i h1 lane col y k acc r).2 z = skewed xs ys ((piece i h1 lane col y k acc r).1.emb z) := by
  have e : ∀ a, ((piece i h1 lane col y k acc r).1.emb z a).val = ![8 * k.val + r.val + 1, 0, 0] a + 1 * (z a).val := fun a => by
    rw [← k0_off1_eq]; rfl
  have z0 : (z 0).val < 1 := (z 0).isLt
  have e0 : ((piece i h1 lane col y k acc r).1.emb z 0).val = 8 * k.val + (1 + r.val) := by
    rw [e 0]; simp; omega
  have e1 : ((piece i h1 lane col y k acc r).1.emb z 1).val = (z 1).val := by rw [e 1]; simp
  have e2 : ((piece i h1 lane col y k acc r).1.emb z 2).val = (z 2).val := by rw [e 2]; simp
  have z1 : (z 1).val < 8 := (z 1).isLt
  have z2 : (z 2).val < 128 := (z 2).isLt
  rw [skewed, e0, e1, e2, ← hv _ (by omega)]
  exact (row_of_one _ z).trans (flat_row _ ⟨(z 1).val, z1⟩ ⟨(z 2).val, z2⟩).symm

include hl hc hy in
/-- The loop before trip `k`: what it carries, and the rows it has written. -/
theorem loop_rows (init : FVec F S8x128 .f32 × FVec F S8x128 .f32 × FVec F S8x128 .f32) (hinit : Carried xs ys 0 init)
    (k : ℕ) (hk : k ≤ 128) :
    let s := st_k0_t1 (F := F) 𝒱 c bd i arg1 harg1 arg2 harg2 arg3 harg3 arg4 harg4 h1 lane col y (shiftRight lane 1 y)
      (shiftRight lane 2 y) (shiftRight lane 3 y) (shiftRight lane 4 y) (dynamicRotate 1 5#32 none y rotates_S8x128_d1) init k
    Carried xs ys k s.1
    ∧ (∀ p ∈ s.2, ∀ z, p.2 z = skewed xs ys (p.1.emb z))
    ∧ ∀ q : S1216x8x128.Idx, 1 ≤ (q 0).val → (q 0).val ≤ 8 * k → ∃ p ∈ s.2, q ∈ p.1.set := by
  induction k with
  | zero => exact ⟨hinit, fun p hp => absurd hp (List.not_mem_nil), fun q h1 h2 => by omega⟩
  | succ k ih =>
    obtain ⟨hcar, hag, hcov⟩ := ih (by omega)
    have hstep := st_k0_t1_succ (F := F) 𝒱 c bd i arg1 harg1 arg2 harg2 arg3 harg3 arg4 harg4 h1 lane col y
      (shiftRight lane 1 y) (shiftRight lane 2 y) (shiftRight lane 3 y) (shiftRight lane 4 y)
      (dynamicRotate 1 5#32 none y rotates_S8x128_d1) init ⟨k, by rw [trips_eq]; omega⟩
    rw [(trip_values ..).1, (trip_values ..).2] at hstep
    dsimp only at hstep hcar hag hcov ⊢
    rw [hstep]
    generalize (st_k0_t1 (F := F) 𝒱 c bd i arg1 harg1 arg2 harg2 arg3 harg3 arg4 harg4 h1 lane col y _ _ _ _ _ init k) = s at *
    have hst := fun {t : ℕ} (ht : t ≤ 8) => stored_flat hl hc xs ys y hy (by omega : k < 128) hcar ht
    refine ⟨⟨hst (t := 8) le_rfl, fun _ => hst (t := 7) (by omega), fun n hn => ?_⟩, fun p hp => ?_, fun q h0 hq => ?_⟩
    · rw [flat_shiftRight hl _ le_rfl, flat_congr _ _ ((n + (1024 - 8)) % 1024) (by omega), hcar.backwards _ (by omega)]
      congr 1; omega
    · rcases List.mem_append.1 hp with hp | hp
      · obtain ⟨r, rfl⟩ : ∃ r : Fin 8, p = piece i h1 lane col y ⟨k, by rw [trips_eq]; omega⟩ s.1 r := by
          simp only [List.mem_cons, List.not_mem_nil, or_false] at hp
          rcases hp with h | h | h | h | h | h | h | h <;> exact ⟨_, h⟩
        exact piece_agrees i h1 xs ys y _ _ r (hst (t := 1 + r.val) (by have := r.isLt; omega))
      · exact hag p hp
    · by_cases h : (q 0).val ≤ 8 * k
      · obtain ⟨p, hp, hqp⟩ := hcov q h0 h
        exact ⟨p, List.mem_append_right _ hp, hqp⟩
      · refine ⟨piece i h1 lane col y ⟨k, by rw [trips_eq]; omega⟩ s.1 ⟨(q 0).val - (8 * k + 1), by omega⟩,
          List.mem_append_left _ ?_, (mem_piece ..).2 (by simp only; omega)⟩
        generalize (⟨(q 0).val - (8 * k + 1), _⟩ : Fin 8) = r
        fin_cases r <;> simp

end

end Cert.Diagonals

end
-- ==== Proof.Scratch.lean ====
/- The scratch array after the first grid point's loop: its rows 0 to 1024 hold the table's anti-diagonals, whatever the
   array held before (`filled_writes`). -/
module

public import proofs.«01_k».proof.Proof.Loop
public import Idealize.ShloMosaic.Lib.Pipeline.Value
public import Idealize.ShloMosaic.Lib.Pipeline.FrameBody

@[expose] public section

set_option maxRecDepth 16384

noncomputable section

namespace Cert.Diagonals

open Idealize.ShloMosaic Idealize.ShloMosaic.TcCoe
open Cert.KernelIdeal Cert.KernelIdeal.Gen Cert.Dtw

variable {F : FTy → Type} [FloatOps F]

/-- Rows 0 to 1024 of the scratch array hold the table's anti-diagonals. -/
def Filled (xs ys : ℕ → F .f32) (f : Vec F S1216x8x128 .f32) : Prop :=
  ∀ p : S1216x8x128.Idx, (p 0).val ≤ 1024 → f p = skewed xs ys p

/-- The lane and the place of every entry, as the kernel makes them. -/
theorem lanes_apply (p : S8x128.Idx) : iota .tc S8x128 32 [1] iota_S8x128_d1_w32 p = BitVec.ofNat 32 (p 1).val := by
  idx_vars p
  pointwise []

theorem places_apply (p : S8x128.Idx) : k0_pay85 p = BitVec.ofNat 32 (128 * (p 0).val + (p 1).val) := by
  obtain ⟨r, l, rfl⟩ : ∃ (r : Fin 8) (l : Fin 128), p = ix2 r l := ⟨p 0, p 1, eq_ix2 p⟩
  pointwise [k0_pay85]
  have hr := r.isLt; have hl := l.isLt
  apply BitVec.eq_of_toNat_eq
  simp only [IntOp.addi, IntOp.muli, BitVec.toNat_add, BitVec.toNat_mul, BitVec.toNat_ofNat, ix2_0, ix2_1]
  omega

/-- The corner's anti-diagonal, as the kernel makes it. -/
theorem flat_corner (xs ys : ℕ → F .f32) (n : ℕ) (hn : n < 1024) : flat k0_pay87 n = diagonal xs ys 0 n := by
  rw [diagonal_zero]
  unfold flat
  pointwise [k0_pay87]
  rw [places_apply]
  simp only [IntOp.cmpi, ix2_0, ix2_1]
  rw [select_ofBool]
  refine if_congr ?_ rfl rfl
  rw [beq_iff_eq, ← BitVec.toNat_inj, BitVec.toNat_ofNat, BitVec.toNat_ofNat]
  omega

section
variable (𝒱 : Variants) (c : Dev nD) (bd : Option 𝒱.V) (i : grid0.Coords)
  (arg1 : Memref sig .tc .vmem S8x128 .f32) (harg1 : arg1.IsWhole)
  (arg2 : Memref sig .tc .vmem S8x128 .f32) (harg2 : arg2.IsWhole)
  (arg3 : Memref sig .tc .vmem S64x640 .f32) (harg3 : arg3.IsWhole)
  (arg4 : Memref sig .tc .vmem S1216x8x128 .f32) (harg4 : arg4.IsWhole)
  (h1 : k0_cond1 i = 1#1) (xs ys : ℕ → F .f32) (x y : FVec F S8x128 .f32)

/-- Row 0, stored before the loop, holds the corner's anti-diagonal. -/
theorem first_row (z : S1x8x128.Idx) :
    k0_pay88 z = skewed xs ys
      ((Rect.unit (s := S1216x8x128) ![0, 0, 0] S1x8x128.size inb_S1216x8x128_S1x8x128_0_0_0).emb z) := by
  have e : ∀ a, ((Rect.unit (s := S1216x8x128) ![0, 0, 0] S1x8x128.size inb_S1216x8x128_S1x8x128_0_0_0).emb z a).val
      = ![0, 0, 0] a + 1 * (z a).val := fun _ => rfl
  have z0 : (z 0).val < 1 := (z 0).isLt
  have z1 : (z 1).val < 8 := (z 1).isLt
  have z2 : (z 2).val < 128 := (z 2).isLt
  rw [skewed, e 0, e 1, e 2]
  refine (row_of_one k0_pay87 z).trans ((flat_row _ ⟨(z 1).val, z1⟩ ⟨(z 2).val, z2⟩).symm.trans ?_)
  refine (flat_corner xs ys _ (by simp only; omega)).trans ?_
  congr 1 <;> simp <;> omega

theorem mem_first_row (q : S1216x8x128.Idx) (hq : (q 0).val = 0) :
    q ∈ (Rect.unit (s := S1216x8x128) ![0, 0, 0] S1x8x128.size inb_S1216x8x128_S1x8x128_0_0_0).set := by
  have h1 : (q 1).val < 8 := (q 1).isLt
  have h2 : (q 2).val < 128 := (q 2).isLt
  rw [Rect.mem_set_unit]
  intro a
  match a with
  | 0 => exact ⟨Nat.zero_le _, by show (q 0).val < 0 + 1; omega⟩
  | 1 => exact ⟨Nat.zero_le _, by show (q 1).val < 0 + 8; omega⟩
  | 2 => exact ⟨Nat.zero_le _, by show (q 2).val < 0 + 128; omega⟩

/-- After the first row's store and the loop's, rows 0 to 1024 hold the anti-diagonals. -/
theorem filled_writes (before : FVec F S8x128 .f32) (hx : ∀ n, n < 1024 → flat x n = xs (1023 - n))
    (hy : ∀ n, 1 ≤ n → n < 1024 → flat y n = ys (n - 1)) (f : BufTy.Contents (Elt F) arg4.view.ty) :
    Filled xs ys (arg4.view.read (Elt F) (arg4.view.writes (Elt F) f
      ((st_k0_t1 (F := F) 𝒱 c bd i arg1 harg1 arg2 harg2 arg3 harg3 arg4 harg4 h1
          (iota .tc S8x128 32 [1] iota_S8x128_d1_w32) k0_pay85 y
          (shiftRight (iota .tc S8x128 32 [1] iota_S8x128_d1_w32) 1 y)
          (shiftRight (iota .tc S8x128 32 [1] iota_S8x128_d1_w32) 2 y)
          (shiftRight (iota .tc S8x128 32 [1] iota_S8x128_d1_w32) 3 y)
          (shiftRight (iota .tc S8x128 32 [1] iota_S8x128_d1_w32) 4 y)
          (dynamicRotate 1 5#32 none y rotates_S8x128_d1) (k0_pay87, before, x) 128).2
        ++ [⟨Rect.unit (s := S1216x8x128) ![0, 0, 0] S1x8x128.size inb_S1216x8x128_S1x8x128_0_0_0, k0_pay88⟩]))) := by
  have hinit : Carried xs ys 0 (k0_pay87, before, x) :=
    ⟨fun n hn => flat_corner xs ys n hn, fun h => absurd h (by decide), fun n hn => by
      rw [hx n hn]; congr 1; omega⟩
  obtain ⟨-, hag, hcov⟩ := loop_rows 𝒱 c bd i arg1 harg1 arg2 harg2 arg3 harg3 arg4 harg4 h1 lanes_apply places_apply xs ys
    y hy _ hinit 128 le_rfl
  intro q hq
  generalize (st_k0_t1 (F := F) 𝒱 c bd i arg1 harg1 arg2 harg2 arg3 harg3 arg4 harg4 h1 _ _ y _ _ _ _ _ _ 128).2 = L at *
  have hin : ∃ p ∈ L ++ [⟨Rect.unit (s := S1216x8x128) ![0, 0, 0] S1x8x128.size inb_S1216x8x128_S1x8x128_0_0_0, k0_pay88⟩],
      q ∈ p.1.set := by
    by_cases h0 : (q 0).val = 0
    · exact ⟨_, List.mem_append_right _ (List.mem_singleton_self _), mem_first_row q h0⟩
    · obtain ⟨p, hp, hqp⟩ := hcov q (by omega) (by omega)
      exact ⟨p, List.mem_append_left _ hp, hqp⟩
  rw [View.read_writes_apply_eq_canon _ _ _ _ hin]
  refine View.canon_apply_of_pieces _ _ (fun p hp => ?_) q hin
  rcases List.mem_append.1 hp with hp | hp
  · exact hag p hp
  · obtain rfl := List.mem_singleton.1 hp
    exact first_row xs ys

end

end Cert.Diagonals

end
-- ==== Proof.Deskew.lean ====
/- How a grid point turns anti-diagonals back into rows. It takes 192 rows of one lane block of the scratch array, and moves
   lane `l` up by `l` rows: for each power of two in `l`, one rotation by that many rows. The first 64 rows then hold 64
   rows of the table; the point stores their square roots (`straightened_apply`). -/
module

public import proofs.«01_k».proof.Proof.Lanes

@[expose] public section

noncomputable section

namespace Cert.Diagonals

open Idealize.ShloMosaic Idealize.ShloMosaic.TcCoe
open Cert.KernelIdeal Cert.KernelIdeal.Gen

variable {F : FTy → Type} [FloatOps F]

/-- The rows moved up by `up` in the lanes that have the bit `up`: a rotation by `around = 192 - up`. -/
def moveUp (up around : ℕ) (v : FVec F S192x128 .f32) : FVec F S192x128 .f32 :=
  select (cmpi .ne (andi (iota .tc S192x128 32 [1] iota_S192x128_d1_w32) (broadcast S192x128 (BitVec.ofNat 32 up)))
      (broadcast S192x128 0#32))
    (dynamicRotate 0 (BitVec.ofNat 32 around) none v rotates_S192x128_d0) v

/-- What a grid point stores from 192 rows of one lane block. -/
def straightened (v : FVec F S192x1x128 .f32) : FVec F S64x128 .f32 :=
  sqrt (extractStridedSlice S64x128 ![0, 0]
    (moveUp 1 191 (moveUp 2 190 (moveUp 4 188 (moveUp 8 184 (moveUp 16 176 (moveUp 32 160 (moveUp 64 128
      (shapeCast S192x128 v shapeCasts_S192x1x128_S192x128))))))))
    slices_S192x128_o0_0_S64x128)

/-- Lane `l`'s entry in row `r`, counted around the 192 rows. -/
def lane (v : FVec F S192x128 .f32) (l : Fin 128) (r : ℕ) : F .f32 :=
  v (ix2 (⟨r % 192, Nat.mod_lt _ (by decide)⟩ : Fin 192) l)

/-- A lane has the bit `2 ^ b` when its quotient by it is odd. -/
theorem bit_of_lane : ∀ (b : Fin 7) (l : Fin 128),
    IntOp.cmpi .ne (IntOp.andi (BitVec.ofNat 32 l.val) (BitVec.ofNat 32 (2 ^ b.val))) 0#32
      = BitVec.ofBool (decide (l.val / 2 ^ b.val % 2 = 1)) := by
  decide

/-- One rotation, at a lane and row. -/
theorem lane_moveUp (b : Fin 7) (v : FVec F S192x128 .f32) (l : Fin 128) (r : ℕ) :
    lane (moveUp (2 ^ b.val) (192 - 2 ^ b.val) v) l r = lane v l (r + 2 ^ b.val * (l.val / 2 ^ b.val % 2)) := by
  unfold lane
  pointwise [moveUp]
  rw [bit_of_lane, select_ofBool]
  have hs : 2 ^ b.val ≤ 2 ^ 6 := Nat.pow_le_pow_right (by decide) (by omega)
  have hp : 0 < 2 ^ b.val := Nat.pow_pos (by decide)
  generalize 2 ^ b.val = s at *
  have hw : (BitVec.ofNat 32 (192 - s)).toNat = 192 - s := by rw [BitVec.toNat_ofNat]; omega
  rcases Nat.mod_two_eq_zero_or_one (l.val / s) with h | h
  · rw [if_neg (by rw [h]; decide)]
    refine congrArg v (congrArg (ix2 · l) (Fin.ext ?_))
    simp only [h]; omega
  · rw [if_pos (by rw [h]; decide)]
    refine congrArg v (congrArg (ix2 · l) (Fin.ext ?_))
    simp only [h, hw]; omega

/-- What a grid point stores, at a row and lane: the square root of the entry `l` rows further down. -/
theorem straightened_apply (v : FVec F S192x1x128 .f32) (r : Fin 64) (l : Fin 128) :
    straightened v (ix2 r l)
      = FloatOps.sqrt (v (ix3 (⟨r.val + l.val, by omega⟩ : Fin 192) (0 : Fin 1) l)) := by
  have h : straightened v (ix2 r l) = FloatOps.sqrt (lane (moveUp (2 ^ (0 : Fin 7).val) (192 - 2 ^ (0 : Fin 7).val)
      (moveUp (2 ^ (1 : Fin 7).val) (192 - 2 ^ (1 : Fin 7).val) (moveUp (2 ^ (2 : Fin 7).val) (192 - 2 ^ (2 : Fin 7).val)
      (moveUp (2 ^ (3 : Fin 7).val) (192 - 2 ^ (3 : Fin 7).val) (moveUp (2 ^ (4 : Fin 7).val) (192 - 2 ^ (4 : Fin 7).val)
      (moveUp (2 ^ (5 : Fin 7).val) (192 - 2 ^ (5 : Fin 7).val) (moveUp (2 ^ (6 : Fin 7).val) (192 - 2 ^ (6 : Fin 7).val)
      (shapeCast S192x128 v shapeCasts_S192x1x128_S192x128)))))))) l r.val) := by
    unfold straightened lane
    have hr := r.isLt
    generalize hm : moveUp 1 191 _ = m
    pointwise []
    refine congrArg FloatOps.sqrt ?_
    rw [← hm]
    refine congrArg (moveUp 1 191 _) (congrArg (ix2 · l) (Fin.ext ?_))
    simp only; omega
  rw [h]
  simp only [lane_moveUp]
  unfold lane
  pointwise []
  refine congrArg FloatOps.sqrt (congrArg v (congrArg (ix3 · 0 l) (Fin.ext ?_)))
  have hl := l.isLt; have hr := r.isLt
  simp
  omega

end Cert.Diagonals

end
-- ==== Proof.Block.lean ====
/- What a grid point stores, as a function of the scratch array's contents: entry `(r, j)` of its block is the square root of
   the entry at row `64 n + r + j` of the scratch array and column `j` (lane `j % 128` of lane block `j / 128`), for grid
   point `n`. The point stores it as five lane blocks. -/
module

public import proofs.«01_k».proof.Proof.Deskew
public import Idealize.ShloMosaic.Lib.Pipeline.Value
public import Idealize.ShloMosaic.Lib.Pipeline.ValueKit.Tiles

@[expose] public section

set_option maxRecDepth 16384

noncomputable section

namespace Cert.Diagonals

open Idealize.ShloMosaic Idealize.ShloMosaic.TcCoe
open Cert.KernelIdeal Cert.KernelIdeal.Gen

variable {F : FTy → Type} [FloatOps F]

/-- The block grid point `n` stores when the scratch array holds `f`. -/
def blockOf (n : ℕ) (f : Vec F S1216x8x128 .f32) : Vec F S64x640 .f32 := fun y =>
  FloatOps.sqrt (f (ix3 (⟨(64 * n + (y 0).val + (y 1).val) % 1216, Nat.mod_lt _ (by decide)⟩ : Fin 1216)
    (⟨(y 1).val / 128 % 8, Nat.mod_lt _ (by decide)⟩ : Fin 8) (⟨(y 1).val % 128, Nat.mod_lt _ (by decide)⟩ : Fin 128)))

/-- The five stores of a grid point, the last first: the straightened lane blocks of the scratch contents `f`. -/
def blockPieces (i : grid0.Coords) (f : Vec F S1216x8x128 .f32) : List (View.Piece (Elt F) S64x640 .f32) :=
  [⟨Rect.unit (s := S64x640) ![0, 512] S64x128.size inb_S64x640_S64x128_0_512,
      straightened (View.ld f (Rect.unit (s := S1216x8x128) (k0_off6 i) S192x1x128.size (k0_off6_inb i)))⟩,
   ⟨Rect.unit (s := S64x640) ![0, 384] S64x128.size inb_S64x640_S64x128_0_384,
      straightened (View.ld f (Rect.unit (s := S1216x8x128) (k0_off5 i) S192x1x128.size (k0_off5_inb i)))⟩,
   ⟨Rect.unit (s := S64x640) ![0, 256] S64x128.size inb_S64x640_S64x128_0_256,
      straightened (View.ld f (Rect.unit (s := S1216x8x128) (k0_off4 i) S192x1x128.size (k0_off4_inb i)))⟩,
   ⟨Rect.unit (s := S64x640) ![0, 128] S64x128.size inb_S64x640_S64x128_0_128,
      straightened (View.ld f (Rect.unit (s := S1216x8x128) (k0_off3 i) S192x1x128.size (k0_off3_inb i)))⟩,
   ⟨Rect.unit (s := S64x640) ![0, 0] S64x128.size inb_S64x640_S64x128_0_0,
      straightened (View.ld f (Rect.unit (s := S1216x8x128) (k0_off2 i) S192x1x128.size (k0_off2_inb i)))⟩]

/-- One lane block of it: the straightened rows from row `64 n + 128 k` on, of lane block `k`. -/
theorem straightened_rows (f : Vec F S1216x8x128 .f32) {n k : ℕ} (hn : n < 9) (hk : k < 5) {o : Fin 3 → ℕ} {o' : Fin 2 → ℕ}
    (ho : o = ![64 * n + 128 * k, k, 0]) (ho' : o' = ![0, 128 * k]) (inb : ∀ a, o a + S192x1x128.size a ≤ S1216x8x128.size a)
    (inb' : ∀ a, o' a + S64x128.size a ≤ S64x640.size a) (z : S64x128.Idx) :
    straightened (View.ld f (Rect.unit (s := S1216x8x128) o S192x1x128.size inb)) z
      = blockOf n f ((Rect.unit (s := S64x640) o' S64x128.size inb').emb z) := by
  obtain ⟨r, l, rfl⟩ : ∃ (r : Fin 64) (l : Fin 128), z = ix2 r l := ⟨z 0, z 1, eq_ix2 z⟩
  have hr := r.isLt; have hl := l.isLt
  have e0 : ((Rect.unit (s := S64x640) o' S64x128.size inb').emb (ix2 r l) 0).val = r.val := by
    subst ho'; show 0 + 1 * r.val = _; omega
  have e1 : ((Rect.unit (s := S64x640) o' S64x128.size inb').emb (ix2 r l) 1).val = 128 * k + l.val := by
    subst ho'; show 128 * k + 1 * l.val = _; omega
  rw [straightened_apply, blockOf]
  refine congrArg FloatOps.sqrt (congrArg f (funext fun a => Fin.ext ?_))
  subst ho
  match a with
  | 0 => show 64 * n + 128 * k + 1 * (r.val + l.val) = _; simp only [ix3_0, e0, e1]; omega
  | 1 => show k + 1 * 0 = _; simp only [ix3_1, e1]; omega
  | 2 => show 0 + 1 * l.val = _; simp only [ix3_2, e1]; omega

/-- The entries lane block `k` covers. -/
theorem mem_lanes (y : S64x640.Idx) {k : ℕ} {o : Fin 2 → ℕ} (ho : o = ![0, 128 * k])
    (inb : ∀ a, o a + S64x128.size a ≤ S64x640.size a) (hk : (y 1).val / 128 = k) :
    y ∈ (Rect.unit (s := S64x640) o S64x128.size inb).set := by
  subst ho
  have h0 : (y 0).val < 64 := (y 0).isLt
  rw [Rect.mem_set_unit]
  intro a
  match a with
  | 0 => exact ⟨Nat.zero_le _, by show (y 0).val < 0 + 64; omega⟩
  | 1 => exact ⟨by show 128 * k ≤ (y 1).val; omega, by show (y 1).val < 128 * k + 128; omega⟩

/-- The five lane blocks make the block, whatever the buffer held. -/
theorem read_blockPieces (i : grid0.Coords) (f : Vec F S1216x8x128 .f32) {arg3 : Memref sig .tc .vmem S64x640 .f32}
    (harg3 : arg3.IsWhole) (f2 : BufTy.Contents (Elt F) arg3.view.ty) :
    View.read (Elt F) arg3.view (arg3.view.writes (Elt F) f2 (blockPieces i f)) = blockOf (i 0).val f := by
  have hn : (i 0).val < 9 := (i 0).isLt
  have hcov : ∀ y : S64x640.Idx, ∃ p ∈ blockPieces i f, y ∈ p.1.set := fun y => by
    have h0 : (y 0).val < 64 := (y 0).isLt
    have h1 : (y 1).val < 640 := (y 1).isLt
    have hk : (y 1).val / 128 = 0 ∨ (y 1).val / 128 = 1 ∨ (y 1).val / 128 = 2 ∨ (y 1).val / 128 = 3
        ∨ (y 1).val / 128 = 4 := by omega
    simp only [blockPieces, List.exists_mem_cons_iff]
    rcases hk with hk | hk | hk | hk | hk
    · exact .inr (.inr (.inr (.inr (.inl (mem_lanes y (k := 0) rfl _ hk)))))
    · exact .inr (.inr (.inr (.inl (mem_lanes y (k := 1) rfl _ hk))))
    · exact .inr (.inr (.inl (mem_lanes y (k := 2) rfl _ hk)))
    · exact .inr (.inl (mem_lanes y (k := 3) rfl _ hk))
    · exact .inl (mem_lanes y (k := 4) rfl _ hk)
  rw [View.read_writes_eq_canon _ _ _ hcov]
  funext y
  refine View.canon_apply_of_pieces _ _ (fun p hp => ?_) y (hcov y)
  simp only [blockPieces, List.mem_cons, List.not_mem_nil, or_false] at hp
  rcases hp with rfl | rfl | rfl | rfl | rfl
  · exact straightened_rows f hn (by decide : 4 < 5) (k0_off6_eq i) rfl _ inb_S64x640_S64x128_0_512
  · exact straightened_rows f hn (by decide : 3 < 5) (k0_off5_eq i) rfl _ inb_S64x640_S64x128_0_384
  · exact straightened_rows f hn (by decide : 2 < 5) (k0_off4_eq i) rfl _ inb_S64x640_S64x128_0_256
  · exact straightened_rows f hn (by decide : 1 < 5) (k0_off3_eq i) rfl _ inb_S64x640_S64x128_0_128
  · exact straightened_rows f hn (by decide : 0 < 5) (k0_off2_eq i) rfl _ inb_S64x640_S64x128_0_0

end Cert.Diagonals

end
-- ==== Proof.Body.lean ====
/- The kernel's body at one grid point. Every point after the first only reads the scratch array and stores its block of rows
   (`body_later`); the first point fills the scratch array with the anti-diagonals before that (`body_first`). -/
module

public import proofs.«01_k».proof.Proof.Gen.KernelIdeal.Frame
public import proofs.«01_k».proof.Proof.Scratch
public import proofs.«01_k».proof.Proof.Block

@[expose] public section

set_option maxRecDepth 16384

noncomputable section

namespace Cert.Diagonals

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Dtw

variable {F : FTy → Type} [FloatOps F]

local notation "𝕄" => MT nD τ sig Unit (Elt F) ℕ (UR sig nD τ) ℕ

set_option maxHeartbeats 1000000 in
/-- A point after the first: the window holds the block of rows read off the scratch array, which stays as it is. -/
theorem body_later (c : Dev nD) (i : grid0.Coords)
    (arg1 : Memref sig .tc .vmem S8x128 .f32) (harg1 : arg1.IsWhole)
    (arg2 : Memref sig .tc .vmem S8x128 .f32) (harg2 : arg2.IsWhole)
    (arg3 : Memref sig .tc .vmem S64x640 .f32) (harg3 : arg3.IsWhole)
    (arg4 : Memref sig .tc .vmem S1216x8x128 .f32) (harg4 : arg4.IsWhole) (hc0 : ¬ k0_cond1 i = 1#1)
    (x0 x1 : Vec F S8x128 .f32) (d3 : Vec F S64x640 .f32) (f : Vec F S1216x8x128 .f32) (E : Set ℕ) (K : PUnit → sProp 𝕄) :
    iprop(owns (c : Thread nD τ) arg1 fullShare x0 ∗ owns (c : Thread nD τ) arg2 fullShare x1
        ∗ owns (c : Thread nD τ) arg3 fullShare d3 ∗ owns (c : Thread nD τ) arg4 fullShare f
        ∗ (iprop(owns (c : Thread nD τ) arg1 fullShare x0 ∗ owns (c : Thread nD τ) arg2 fullShare x1
            ∗ owns (c : Thread nD τ) arg3 fullShare (blockOf (i 0).val f) ∗ owns (c : Thread nD τ) arg4 fullShare f) -∗ K ⟨⟩))
      ⊢ wp frame (wpE (defs₀ (F := F)) Variants.none c none) E (cc0__dtw_body i arg1 harg1 arg2 harg2 arg3 harg3 arg4 harg4) K := by
  simp only [cc0__dtw_body_eq_skeleton]; unfold cc0__dtw_body_skel
  simp only [k0_part15_eq_skeleton, k0_part16_eq_skeleton, k0_part17_eq_skeleton, k0_part18_eq_skeleton,
    k0_part19_eq_skeleton, k0_part20_eq_skeleton]
  unfold owns
  iintro ⟨⟨%f0, %hf0, H0⟩, ⟨%f1, %hf1, H1⟩, ⟨%f2, -, H2⟩, ⟨%f3, %hf3, HS0⟩, Hk⟩
  obtain rfl := harg1.eq_unread hf0; obtain rfl := harg2.eq_unread hf1; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine Eq.trans ?_ (read_blockPieces i f harg3 f2)
    conv_rhs => rw [← hf3]
    rfl
  iexists _; isplitr; swap; · iexact HS0
  ipureintro; exact harg4.read_unread _

/-- A cast to the shape an array has already leaves its entries in their places. -/
theorem flat_cast (v : Vec F S8x128 .f32) (n : ℕ) : flat (shapeCast S8x128 v shapeCasts_S8x128_S8x128) n = flat v n := by
  unfold flat
  pointwise []

/-- Loading a whole window gives what it holds. -/
theorem load_whole (v : Vec F S8x128 .f32) :
    View.ld v (Rect.unit (s := S8x128) ![0, 0] S8x128.size inb_S8x128_S8x128_0_0) = v :=
  View.ld_unit_zero (by funext a; fin_cases a <;> rfl) _ v

set_option maxHeartbeats 1000000 in
/-- The first point: whatever the scratch array held, it ends up holding the anti-diagonals of the two sequences that the
    windows carry (the first one reversed, the second one place late), and the window holds the first block of rows. -/
theorem body_first (c : Dev nD) (i : grid0.Coords)
    (arg1 : Memref sig .tc .vmem S8x128 .f32) (harg1 : arg1.IsWhole)
    (arg2 : Memref sig .tc .vmem S8x128 .f32) (harg2 : arg2.IsWhole)
    (arg3 : Memref sig .tc .vmem S64x640 .f32) (harg3 : arg3.IsWhole)
    (arg4 : Memref sig .tc .vmem S1216x8x128 .f32) (harg4 : arg4.IsWhole) (hc0 : k0_cond1 i = 1#1)
    (x0 x1 : Vec F S8x128 .f32) (d3 : Vec F S64x640 .f32) (d4 : Vec F S1216x8x128 .f32)
    (xs ys : ℕ → F .f32) (hx : ∀ n, n < 1024 → flat x0 n = xs (1023 - n)) (hy : ∀ n, 1 ≤ n → n < 1024 → flat x1 n = ys (n - 1))
    (E : Set ℕ) (K : PUnit → sProp 𝕄) :
    iprop(owns (c : Thread nD τ) arg1 fullShare x0 ∗ owns (c : Thread nD τ) arg2 fullShare x1
        ∗ owns (c : Thread nD τ) arg3 fullShare d3 ∗ owns (c : Thread nD τ) arg4 fullShare d4
        ∗ (iprop(owns (c : Thread nD τ) arg1 fullShare x0 ∗ owns (c : Thread nD τ) arg2 fullShare x1
            ∗ ∃ f, owns (c : Thread nD τ) arg4 fullShare f ∗ owns (c : Thread nD τ) arg3 fullShare (blockOf (i 0).val f)
              ∗ ⌜Filled xs ys f⌝) -∗ K ⟨⟩))
      ⊢ wp frame (wpE (defs₀ (F := F)) Variants.none c none) E (cc0__dtw_body i arg1 harg1 arg2 harg2 arg3 harg3 arg4 harg4) K := by
  simp only [cc0__dtw_body_eq_skeleton]; unfold cc0__dtw_body_skel
  simp only [k0_part15_eq_skeleton, k0_part14_eq_skeleton, k0_part16_eq_skeleton, k0_part17_eq_skeleton, k0_part18_eq_skeleton,
    k0_part19_eq_skeleton, k0_part20_eq_skeleton]
  unfold owns
  iintro ⟨⟨%f0, %hf0, H0⟩, ⟨%f1, %hf1, H1⟩, ⟨%f2, -, H2⟩, ⟨%f3, -, HS0⟩, Hk⟩
  obtain rfl := harg1.eq_unread hf0; obtain rfl := harg2.eq_unread hf1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  iexists _
  isplitl [HS0]
  · iexists _; isplitr; swap; · iexact HS0
    ipureintro; rfl
  isplitl [H2]
  · iexists _; isplitr; swap; · iexact H2
    ipureintro
    exact read_blockPieces i _ harg3 f2
  ipureintro
  refine filled_writes Variants.none c none i arg1 harg1 arg2 harg2 arg3 harg3 arg4 harg4 hc0 xs ys
    (shapeCast S8x128 (View.ld (View.read (Elt F) arg1.view (harg1.unread x0)) (Rect.unit (s := S8x128) ![0, 0] S8x128.size inb_S8x128_S8x128_0_0)) shapeCasts_S8x128_S8x128)
    (shapeCast S8x128 (View.ld (View.read (Elt F) arg2.view (harg2.unread x1)) (Rect.unit (s := S8x128) ![0, 0] S8x128.size inb_S8x128_S8x128_0_0)) shapeCasts_S8x128_S8x128)
    k0_pay105 (fun n hn => ?_) (fun n h1 hn => ?_) f3
  · rw [flat_cast, hf0, load_whole]; exact hx n hn
  · rw [flat_cast, hf1, load_whole]; exact hy n h1 hn

end Cert.Diagonals

end
-- ==== Proof.Inputs.lean ====
/- The two arguments as sequences, and what the kernel's first two windows hold of them: the first the first argument
   padded to 1024 places and turned around, the second the second argument one place on. Both are read as flat vectors of
   1024 places (`flat_window0`, `flat_window1`). -/
module

public import proofs.«01_k».proof.Proof.Gen.KernelIdeal.Frame
public import proofs.«01_k».proof.Proof.Lanes
public import Idealize.ShloMosaic.Lib.StableHlo.ReadAt
public import Idealize.ShloMosaic.Lib.Pipeline.ValueKit.Geometry

@[expose] public section

set_option maxRecDepth 16384

noncomputable section

namespace Cert.Diagonals

open Idealize.ShloMosaic Idealize.ShloMosaic.TcCoe Idealize.ShloMosaic.Tactic
open Cert.KernelIdeal Cert.KernelIdeal.Gen Cert.Dtw

variable {F : FTy → Type} [FloatOps F]

variable (m : (ℓ : Loc nD τ sig) → Buf (Elt F) ℓ)

/-- The first window's array: the first argument, padded with zeros to 1024 places and turned around. -/
theorem padded0 (c : Dev nD) (r : Fin 8) (l : Fin 128) :
    V m c main_v3 (ix2 r l) = seqOf (m ((c : Thread nD τ).loc main_arg0)) (1023 - (128 * r.val + l.val)) := by
  have hr := r.isLt; have hl := l.isLt
  unfold V
  after_reads_at
  have turned : (1024 - (r.val * 128 + l.val + 1)) = 1023 - (128 * r.val + l.val) := by omega
  unfold seqOf
  by_cases h : 1023 - (128 * r.val + l.val) < 512
  · rw [dif_pos h]
    refine (dif_pos ?_).trans ?_
    · change 1024 - (r.val * 128 + l.val + 1) < 512; omega
    · after_reads_at
      refine congrArg (m ((c : Thread nD τ).loc main_arg0)) (congrArg ix1 (Fin.ext ?_))
      exact turned
  · rw [dif_neg h]
    refine (dif_neg ?_).trans ?_
    · change ¬ 1024 - (r.val * 128 + l.val + 1) < 512; omega
    · after_reads_at

/-- The second window's array from its place 1 on: the second argument, then zeros. -/
theorem padded1 (c : Dev nD) (r : Fin 8) (l : Fin 128) (h : 1 ≤ 128 * r.val + l.val) :
    V m c main_v7 (ix2 r l) = seqOf (m ((c : Thread nD τ).loc main_arg1)) (128 * r.val + l.val - 1) := by
  have hr := r.isLt; have hl := l.isLt
  unfold V
  after_reads_at
  unfold seqOf
  rw [dif_neg (by omega)]
  by_cases h : r.val * 128 + l.val - 1 < 512
  · rw [dif_pos h, dif_pos (by omega)]
    after_reads_at
    refine congrArg (m ((c : Thread nD τ).loc main_arg1)) (congrArg ix1 (Fin.ext ?_))
    simp only; omega
  · rw [dif_neg h, dif_neg (by omega)]
    after_reads_at

/-- The two windows stage the whole of their arrays at every grid point. -/
theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)

theorem iblk0_eq (c : Dev nD) (t : Fin cfg0.N) : iblk m c 0 t = V m c main_v3 := by
  funext z
  blk_simp [iblk]
  refine congrArg _ ?_
  blk_ext [index0]

theorem iblk1_eq (c : Dev nD) (t : Fin cfg0.N) : iblk m c 1 t = V m c main_v7 := by
  funext z
  blk_simp [iblk]
  refine congrArg _ ?_
  blk_ext [index1]

/-- What the body finds in the first window, -/
theorem flat_window0 (c : Dev nD) (t : Fin cfg0.N) (n : ℕ) (hn : n < 1024) :
    flat (iblk m c 0 t) n = seqOf (m ((c : Thread nD τ).loc main_arg0)) (1023 - n) := by
  rw [iblk0_eq]; unfold flat
  exact (padded0 m c _ _).trans (congrArg _ (by simp only; omega))

/-- and in the second, whose place 0 it does not use. -/
theorem flat_window1 (c : Dev nD) (t : Fin cfg0.N) (n : ℕ) (h1 : 1 ≤ n) (hn : n < 1024) :
    flat (iblk m c 1 t) n = seqOf (m ((c : Thread nD τ).loc main_arg1)) (n - 1) := by
  rw [iblk1_eq]; unfold flat
  exact (padded1 m c _ _ (by simp only; omega)).trans (congrArg _ (by simp only; omega))

end Cert.Diagonals

end
-- ==== Proof.KernelRun.lean ====
/- The kernel's whole run: what each grid point leaves in its window and in the scratch array, and so what the result array
   holds at the end: the square root of the table's entries (`kernel_run`). -/
module

public import proofs.«01_k».proof.Proof.Body
public import proofs.«01_k».proof.Proof.Inputs
public import Idealize.ShloMosaic.Lib.Claim
public import Idealize.ShloMosaic.Lib.WordCmp

@[expose] public section

set_option maxRecDepth 16384

noncomputable section

namespace Cert.Diagonals

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.KernelIdeal Cert.KernelIdeal.Gen Cert.Dtw

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first sequence compared: the first argument. -/
abbrev xsOf (c : Dev nD) : ℕ → F .f32 := seqOf (m ((c : Thread nD τ).loc main_arg0))
/-- The second sequence: the second argument. -/
abbrev ysOf (c : Dev nD) : ℕ → F .f32 := seqOf (m ((c : Thread nD τ).loc main_arg1))

/-- The result: the square root of every entry of the table. -/
def result (c : Dev nD) : Vec F S513x513 .f32 := fun p => FloatOps.sqrt (table (xsOf m c) (ysOf m c) (p 0).val (p 1).val)

/-- The rows of the table's square roots that grid point `t` computes. -/
def rows (c : Dev nD) (t : Fin cfg0.N) : Vec F S64x640 .f32 :=
  fun y => FloatOps.sqrt (table (xsOf m c) (ysOf m c) (64 * t.val + (y 0).val) (y 1).val)

/-- The scratch array between grid points: from the first point on it holds the anti-diagonals. -/
def between (c : Dev nD) : ℕ → sProp 𝕄
  | 0 => Pipeline.ΦA spec0 c
  | _ + 1 => iprop((∃ f, ⌜Filled (xsOf m c) (ysOf m c) f⌝ ∗ owns (c : Thread nD τ) (Memref.whole cc0_scratch0) fullShare f)
      ∗ (∃ r, prngReg c r))

/-- The run's data: the arrays as the run finds them; after the body at a point the inputs' blocks and the point's rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rows m c t
  Φ t := between m c t.val
  q _ := fullShare
  owed _ := 0

/-- What the arrays hold before the launch. -/
theorem A_eq (c : Dev nD) (w : Fin cfg0.W) : (dats m 0 c).A w = V m c (Pipeline.arrRef spec0 w) := by
  dsimp only [dats]

/-- What each window holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = rows m c t := by dsimp only [dats]

/-- What the inputs' windows hold before it. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The grid coordinate of a point is its number. -/
theorem coord (t : Fin cfg0.N) : (grid0.coords t 0).val = t.val := by
  have ht : t.val < 9 := Nat.lt_of_lt_of_eq t.isLt N_0
  have e0 : (grid0.coords t 0).val = t.val / 1 % 9 := Pipeline.Grid.coords_val t 0 (by decide) rfl
  omega

/-- The body computes the diagonals at the first point alone. -/
theorem first_iff (t : Fin cfg0.N) : k0_cond1 (grid0.coords t) = 1#1 ↔ t.val = 0 := by
  have ht : t.val < 9 := Nat.lt_of_lt_of_eq t.isLt N_0
  have e0 := coord t
  simp only [k0_cond1, e0]
  word_cmp

/-- The result's window is at block `t`. -/
theorem index2 : ∀ t : Fin cfg0.N, win0_2.index t = ![t.val, 0] := (by decide +kernel : ∀ t : Fin grid0.N, _)

/-- Where a point writes its block: from row `64 t` on. -/
theorem place (t : Fin cfg0.N) (y : ((cfg0.win 2).xblock (cfg0.grid.coords t)).Idx) :
    (((win0_2.blk t).view.emb y) 0).val = 64 * t.val + (y 0).val ∧ (((win0_2.blk t).view.emb y) 1).val = (y 1).val := by
  have h0 : win0_2.index t 0 = t.val := congrFun (index2 t) 0
  have h1 : win0_2.index t 1 = 0 := congrFun (index2 t) 1
  constructor
  · show win0_2.index t (0 : Fin 2) * 64 + 1 * (y 0).val = _; rw [h0]; omega
  · show win0_2.index t (1 : Fin 2) * 640 + 1 * (y 1).val = _; rw [h1]; omega

/-- A block's entries inside the array, when the scratch array holds the anti-diagonals. -/
theorem blockOf_filled {xs ys : ℕ → F .f32} {f : Vec F S1216x8x128 .f32} (hf : Filled xs ys f) (n : ℕ) (y : S64x640.Idx)
    (h0 : 64 * n + (y 0).val ≤ 512) (h1 : (y 1).val ≤ 512) :
    blockOf n f y = FloatOps.sqrt (table xs ys (64 * n + (y 0).val) (y 1).val) := by
  unfold blockOf
  rw [hf _ (by simp only [ix3_0]; omega), ← diagonal_add]
  unfold skewed
  simp only [ix3_0, ix3_1, ix3_2]
  exact congrArg FloatOps.sqrt (congrArg₂ (diagonal xs ys) (by omega) (by omega))

/-- What a point stores agrees with its rows of the table on the part of the block inside the array. -/
theorem block_rows (c : Dev nD) (t : Fin cfg0.N) (f : Vec F S1216x8x128 .f32) (hf : Filled (xsOf m c) (ysOf m c) f) :
    win0_2.fill (grid0.coords t) (blockOf t.val f) (win0_2.cut (grid0.coords t) (rows m c t)) = blockOf t.val f := by
  funext y
  unfold Window.fill
  split
  · rename_i h
    obtain ⟨e0, e1⟩ := place t fun a => ⟨(y a).val, (win0_2.moved_iff _ y).mp h a⟩
    have b0 : ((win0_2.blk t).view.emb (fun a => ⟨(y a).val, (win0_2.moved_iff _ y).mp h a⟩) 0).val < 513 := Fin.isLt _
    have b1 : ((win0_2.blk t).view.emb (fun a => ⟨(y a).val, (win0_2.moved_iff _ y).mp h a⟩) 1).val < 513 := Fin.isLt _
    rw [e0] at b0; rw [e1] at b1
    simp only at b0 b1
    exact (blockOf_filled hf t.val y (by omega) (by omega)).symm
  · rfl

/-- Before the first point the scratch array may hold anything. -/
theorem between_zero (c : Dev nD) : (between m c 0 : sProp 𝕄)
    = iprop((∃ d, owns (c : Thread nD τ) (Memref.whole cc0_scratch0) fullShare d) ∗ (∃ r, prngReg c r)) := by
  unfold between Pipeline.ΦA; rw [scopedRest0_eq]; simp only [owns_whole]; try rfl

/-- The body that the launch calls at a point. -/
theorem body_table (t : Fin cfg0.N) :
    defs₀ (F := F) .tc cfg0.body (cfg0.bodyArgs t (cfg0.slots t)) = bodyAt0 t := by
  unfold defs₀; rw [Defs.onTc_tc]

set_option maxHeartbeats 800000 in
/-- The body keeps the scratch array's invariant and stores its rows, at the first point and at every later one. -/
theorem body_obligation (c : Dev nD) :
    BodyObligationLoose (dats (F := F) m 0 c) (defs₀ (F := F)) Variants.none () Set.univ := fun t => by
  rw [bigSep_W0, bigSep_W0, body_table]
  simp only [before0_0, before0_1]
  rw [show (dats m 0 c).owesAt () t.succ = (dats m 0 c).owesAt () t.castSucc from rfl, after0_0, after0_1, after0_2,
    show (dats m 0 c).Φ t.castSucc = between m c t.val from rfl, show (dats m 0 c).Φ t.succ = between m c (t.val + 1) from rfl]
  unfold bodyAt0
  by_cases h0 : t.val = 0
  · rw [h0, between_zero]
    iintro ⟨⟨⟨%d4, HS⟩, Hg⟩, Ho, ⟨%d0, H0⟩, ⟨%d1, H1⟩, ⟨%d2, H2⟩⟩
    iapply (body_first c (grid0.coords t) _ _ _ _ _ _ _ _ ((first_iff t).mpr h0) (iblk m c 0 t) (iblk m c 1 t) _ d4
      (xsOf m c) (ysOf m c) (flat_window0 m c t) (flat_window1 m c t) Set.univ _)
    isplitl [H0]; · iexact H0
    isplitl [H1]; · iexact H1
    isplitl [H2]; · iexact H2
    isplitl [HS]; · iexact HS
    iintro ⟨H0, H1, %f, HS, H2, %hf⟩
    isplitl [HS Hg]
    · unfold between
      isplitl [HS]
      · iexists f; isplitr; · ipureintro; exact hf
        iexact HS
      iexact Hg
    isplitl [Ho]; · iexact Ho
    isplitl [H0]; · iexact H0
    isplitl [H1]; · iexact H1
    iexists (blockOf t.val f)
    rw [coord]
    change _ ⊢ owns (c : Thread nD τ) _ fullShare (win0_2.fill (grid0.coords t) _ (win0_2.cut (grid0.coords t) (rows m c t)))
    rw [block_rows m c t f hf]
  · obtain ⟨n, hn⟩ : ∃ n, t.val = n + 1 := ⟨t.val - 1, by omega⟩
    rw [hn]
    unfold between
    iintro ⟨⟨⟨%f, %hf, HS⟩, Hg⟩, Ho, ⟨%d0, H0⟩, ⟨%d1, H1⟩, ⟨%d2, H2⟩⟩
    iapply (body_later c (grid0.coords t) _ _ _ _ _ _ _ _ (fun h => h0 ((first_iff t).mp h)) (iblk m c 0 t) (iblk m c 1 t) _ f
      Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists f; isplitr; · ipureintro; exact hf
        iexact HS
      iexact Hg
    isplitl [Ho]; · iexact Ho
    isplitl [H0]; · iexact H0
    isplitl [H1]; · iexact H1
    iexists (blockOf t.val f)
    rw [coord]
    change _ ⊢ owns (c : Thread nD τ) _ fullShare (win0_2.fill (grid0.coords t) _ (win0_2.cut (grid0.coords t) (rows m c t)))
    rw [block_rows m c t f hf]

set_option backward.isDefEq.respectTransparency.types false in
/-- The launch. -/
theorem launched : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m)
    (hin := fun c => .rfl) (hout := fun c => by
      rw [show (dats m 0 c).Φ (Fin.last cfg0.N) = between m c (8 + 1) from rfl, show Pipeline.ΦA spec0 c = between m c 0 from rfl, between_zero]
      unfold between
      iintro ⟨⟨%f, -, HS⟩, Hg⟩
      isplitl [HS]
      · iexists f; iexact HS
      iexact Hg)

/-- The result array at the end. -/
theorem final (c : Dev nD) : (dats m 0 c).arrAt 2 cfg0.N = result m c := by
  refine (dats m 0 c).arrAt_eq_of_covers 2 _ (by decide +kernel) fun t hf y => ?_
  blk_simp
  rw [after0_2]
  obtain ⟨e0, e1⟩ := place t y
  unfold result
  rw [e0, e1]
  rfl

/-- The frame: every run ends, the arguments and the counters as they were. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (launched m ρ)))
    ((θ_run defs _ _).mono (fun _ h => h.2) (launched m ρ))

/-- The value: every run ends with the result array holding the square roots of the table. -/
theorem kernel_run : θ_run defs (onTc (τ := τ) (main (F := F))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).trans (final m c), h.2.1 c⟩)
    (θ_run_and ((θ_run defs _ _).mono (fun _ h c => (h.1 c).1 2) (launched m ρ)) (kernel_frame m ρ))

end Cert.Diagonals

end
-- ==== Proof.Words.lean ====
/- The kernel as printed. It and the kernel over the extended reals are one text, and the frame of the latter is proved at
   any floats; so it is the frame of the former, at machine words. -/
module

public import proofs.«01_k».proof.Proof.Gen.Kernel
public import proofs.«01_k».proof.Proof.KernelRun

@[expose] public section

set_option maxRecDepth 16384

noncomputable section

namespace Cert.Words

open Idealize.ShloMosaic Idealize.ShloMosaic.TcCoe Idealize.SL.Sem
open Cert.Kernel Cert.Kernel.Gen

variable {F : FTy → Type} [FloatOps F] (m : (ℓ : Loc nD τ sig) → Buf (Elt F) ℓ) (ρ : Dev nD → PrngReg)

/-- The two programs' bodies are the same. -/
theorem bodies_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (_, _) => rfl
  | ⟨_ + 1, h⟩, _ => exact absurd h (Nat.not_lt.2 (Nat.le_add_left _ _))

/-- So are all that the two programs call. -/
theorem defs_eq : Cert.Kernel.defs (F := F) = Cert.KernelIdeal.defs (F := F) :=
  congrArg (Pipeline.defs Cert.Kernel.pcfgs) bodies_eq

/-- The frame of the kernel as printed: every run ends, the arguments and the counters as they were. -/
theorem kernel_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.Diagonals.kernel_frame (F := F) m ρ

end Cert.Words

end
-- ==== Proof.RefOps.lean ====
/- The reference's operations on its table, at entries that lie inside it: the words that count the cells, the read of one
   entry (`read_entry`, `read_place`), and the write of one entry (`write_entry`). -/
module

public import proofs.«01_k».proof.Proof.Gen.ReferenceIdeal.Run
public import Idealize.ShloMosaic.Lib.Routing.OpsPair
public import Idealize.ShloMosaic.Lib.Routing.OpsSet
public import Idealize.ShloMosaic.Lib.PointwiseCore
public import Idealize.ShloMosaic.Lib.StableHlo.Predicate

@[expose] public section

noncomputable section

namespace Cert.Cells

open Idealize.ShloMosaic Idealize.ShloMosaic.TcCoe
open Cert.ReferenceIdeal Cert.ReferenceIdeal.Gen

/-! ## Words -/

/-- A number as a rank-0 array of words. -/
def word (k : ℕ) : IVec S_ 32 := fun _ => BitVec.ofNat 32 k

/-- Words of small numbers add, divide and leave remainders as the numbers do. -/
theorem word_add (k l : ℕ) : addi (word k) (constantI S_ 32 (BitVec.ofNat 32 l)) = word (k + l) := by
  funext z
  show BitVec.ofNat 32 k + BitVec.ofNat 32 l = _
  rw [← BitVec.ofNat_add]; rfl

/-- Read signed, a small number's word is the number. -/
theorem toInt_word {k : ℕ} (h : k < 2 ^ 31) : (BitVec.ofNat 32 k).toInt = k := StableHlo.Predicate.toInt_ofNat_small _ h

/-- Division by 512 has no special case. -/
theorem no_corner (k : ℕ) : ¬ IntOp.SDivCorner (BitVec.ofNat 32 k) 512#32 := by
  rintro (h | ⟨_, h⟩) <;> exact absurd h (by decide)

theorem word_div {k : ℕ} (h : k < 2 ^ 31) : Host.divsi (word k) (constantI S_ 32 512#32) = word (k / 512) := by
  funext z
  show IntOp.divsi .host (BitVec.ofNat 32 k) 512#32 = BitVec.ofNat 32 (k / 512)
  have hm : (BitVec.ofNat 32 k).msb = false := BitVec.msb_eq_false_iff_two_mul_lt.mpr (by rw [BitVec.toNat_ofNat]; omega)
  apply BitVec.eq_of_toNat_eq
  simp only [IntOp.divsi, if_neg (no_corner k), BitVec.sdiv_eq, hm, show (512#32 : BitVec 32).msb = false from by decide,
    BitVec.udiv_eq, BitVec.toNat_udiv, BitVec.toNat_ofNat, Nat.reducePow, Nat.reduceMod]
  omega

theorem word_rem {k : ℕ} (h : k < 2 ^ 31) : Host.remsi (word k) (constantI S_ 32 512#32) = word (k % 512) := by
  funext z
  show IntOp.remsi .host (BitVec.ofNat 32 k) 512#32 = BitVec.ofNat 32 (k % 512)
  have hm : (BitVec.ofNat 32 k).msb = false := BitVec.msb_eq_false_iff_two_mul_lt.mpr (by rw [BitVec.toNat_ofNat]; omega)
  apply BitVec.eq_of_toNat_eq
  simp only [IntOp.remsi, if_neg (no_corner k), BitVec.srem_eq, hm, show (512#32 : BitVec 32).msb = false from by decide,
    BitVec.umod_eq, BitVec.toNat_umod, BitVec.toNat_ofNat, Nat.reducePow, Nat.reduceMod]
  omega

/-- An index that is not negative is not wrapped around. -/
theorem unwrapped {k : ℕ} (h : k < 2 ^ 31) (a : IVec S_ 32) :
    select (cmpi .slt (word k) (constantI S_ 32 0#32)) a (word k) = word k := by
  funext z
  exact Routing.wrap_of_lt (BitVec.ofNat 32 k) _ (by rw [BitVec.toNat_ofNat]; omega)

/-! ## Reads -/

variable {α : Type}

/-- A start inside the array is not moved by the read's clamp. -/
theorem clamped {k n : ℕ} (hk : k ≤ n) (hn : n < 2 ^ 31) (r : Fin 1) :
    (min (max (BitVec.ofNat 32 k).toInt 0) (n : Int)).toNat + r.val = k := by
  rw [toInt_word (by omega)]
  omega

/-- The read of one entry of a vector, -/
theorem read_place (v : S512.Idx → α) (k : ℕ) (hk : k < 512) :
    shapeCast S_ (Host.dynamicSlice S1 v (fun a => ((![word k] : Fin 1 → IVec S_ 32) a (Shape.Idx.first h_S_)).toInt)
      sliceFits_S512_S1) shapeCasts_S1_S_ = fun _ => v (ix1 ⟨k, hk⟩) := by
  funext z
  unfold shapeCast Host.dynamicSlice
  refine congrArg v (funext fun a => Fin.ext ?_)
  match a with
  | ⟨0, _⟩ => exact clamped (n := 511) (by omega) (by decide) (Shape.reshapeEquiv shapeCasts_S1_S_ z 0)

/-- and of one entry of the table. -/
theorem read_entry (v : S513x513.Idx → α) (k l : ℕ) (hk : k < 513) (hl : l < 513) :
    shapeCast S_ (Host.dynamicSlice S1x1 v (fun a => ((![word k, word l] : Fin 2 → IVec S_ 32) a (Shape.Idx.first h_S_)).toInt)
      sliceFits_S513x513_S1x1) shapeCasts_S1x1_S_ = fun _ => v (ix2 ⟨k, hk⟩ ⟨l, hl⟩) := by
  funext z
  unfold shapeCast Host.dynamicSlice
  refine congrArg v (funext fun a => Fin.ext ?_)
  match a with
  | ⟨0, _⟩ => exact clamped (n := 512) (by omega) (by decide) (Shape.reshapeEquiv shapeCasts_S1x1_S_ z 0)
  | ⟨1, _⟩ => exact clamped (n := 512) (by omega) (by decide) (Shape.reshapeEquiv shapeCasts_S1x1_S_ z 1)

/-! ## Writes -/

/-- The two words of a place, as the reference puts them side by side. -/
def pair (k l : ℕ) : IVec S2 32 :=
  concatenate S2 0 [⟨S1, broadcastInDim S1 ![] bcast_S_S1 (word k)⟩, ⟨S1, broadcastInDim S1 ![] bcast_S_S1 (word l)⟩]
    concatenates_S1_S1_S2_d0

/-- Its two entries. -/
theorem pair_0 (k l : ℕ) : pair k l (ix1 0) = BitVec.ofNat 32 k := by
  unfold pair
  pointwise [word]

theorem pair_1 (k l : ℕ) : pair k l (ix1 1) = BitVec.ofNat 32 l := by
  unfold pair
  pointwise [word]

/-- Where the one update lands. -/
theorem lands (z : S_.Idx) (k l : ℕ) (hk : k < 513) (hl : l < 513) (a b : Fin 513) :
    scatter_S513x513_S2_S__n_01_01_0.resultIdx? z (pair k l) = some (ix2 a b) ↔ a.val = k ∧ b.val = l := by
  rw [Routing.resultIdx?_eq_some]
  have s0 : scatter_S513x513_S2_S__n_01_01_0.start z (pair k l) 0 = k := by
    trans (pair k l (ix1 0)).toInt
    · refine congrArg (fun i => (pair k l i).toInt) (funext fun q => Fin.ext ?_)
      match q with
      | ⟨0, _⟩ => rfl
    · rw [pair_0, toInt_word (by omega)]
  have s1 : scatter_S513x513_S2_S__n_01_01_0.start z (pair k l) 1 = l := by
    trans (pair k l (ix1 1)).toInt
    · refine congrArg (fun i => (pair k l i).toInt) (funext fun q => Fin.ext ?_)
      match q with
      | ⟨0, _⟩ => rfl
    · rw [pair_1, toInt_word (by omega)]
  have w0 : scatter_S513x513_S2_S__n_01_01_0.window z 0 = 0 := by rfl
  have w1 : scatter_S513x513_S2_S__n_01_01_0.window z 1 = 0 := by rfl
  constructor
  · intro h
    have h0 := h 0; have h1 := h 1
    rw [s0, w0, ix2_0] at h0; rw [s1, w1, ix2_1] at h1
    omega
  · rintro ⟨rfl, rfl⟩ q
    match q with
    | ⟨0, _⟩ => exact (congrArg₂ (fun (x : Int) (y : ℕ) => x + (y : Int)) s0 w0).trans (Int.add_zero _)
    | ⟨1, _⟩ => exact (congrArg₂ (fun (x : Int) (y : ℕ) => x + (y : Int)) s1 w1).trans (Int.add_zero _)

/-- The write of one entry. -/
theorem write_entry (v : S513x513.Idx → α) (u : S_.Idx → α) (k l : ℕ) (hk : k < 513) (hl : l < 513) (a b : Fin 513) :
    Host.scatter scatter_S513x513_S2_S__n_01_01_0 (fun _ b => b) v (pair k l) u (ix2 a b)
      = if a.val = k ∧ b.val = l then u (Shape.Idx.first h_S_) else v (ix2 a b) := by
  by_cases h : a.val = k ∧ b.val = l
  · refine Eq.trans ?_ (if_pos h).symm
    exact Routing.scatter_set_hit _ _ _ _ _ _ (fun z _ => congrArg u (Subsingleton.elim _ _)) (Shape.Idx.first h_S_)
      ((lands _ k l hk hl a b).2 h)
  · refine Eq.trans ?_ (if_neg h).symm
    exact Routing.scatter_set_miss _ _ _ _ _ fun z q => h ((lands z k l hk hl a b).1 q)

end Cert.Cells

end
-- ==== Proof.RefValue.lean ====
/- The reference's run: its loop fills the table cell by cell, row after row. After `n` trips the border and the first `n`
   cells hold the table's numbers (`Reached`), every trip adds its cell (`step_reached`), and after all 262144 the result is
   the square root of the table (`reference_run`). -/
module

public import proofs.«01_k».proof.Proof.RefOps
public import proofs.«01_k».proof.Proof.Table
public import Idealize.ShloMosaic.Lib.Quiescent

@[expose] public section

set_option maxRecDepth 16384

noncomputable section

namespace Cert.Cells

open Idealize.ShloMosaic Idealize.ShloMosaic.TcCoe Idealize.ShloMosaic.StableHlo
open Idealize.SL.Sem
open Cert.ReferenceIdeal Cert.ReferenceIdeal.Gen Cert.ReferenceIdeal.Value Cert.Dtw

variable {F : FTy → Type} [FloatOps F]

/-- The cells filled after `n` trips: the border, and the first `n` inside, row after row. -/
def Done (n a b : ℕ) : Prop := a = 0 ∨ b = 0 ∨ 512 * (a - 1) + (b - 1) < n

/-- The buffers after `n` trips: the two sequences, the count of trips, and the table as far as it is filled. -/
structure Reached (x y : FVec F S512 .f32) (n : ℕ) (V : Valuation τ sig (Elt F)) : Prop where
  xs : V (Proc.devRef .tc main_v5_0) = x
  ys : V (Proc.devRef .tc main_v5_1) = y
  count : V (Proc.devRef .tc main_v5_3) = word n
  cells : ∀ (a b : Fin 513), Done n a.val b.val →
    (V (Proc.devRef .tc main_v5_4) : FVec F S513x513 .f32) (ix2 a b) = table (seqOf x) (seqOf y) a.val b.val

variable {x y : FVec F S512 .f32} {n : ℕ} {V : Valuation τ sig (Elt F)}

/-- A trip's row. -/
theorem row_eq (h : Reached x y n V) (hn : n < 262144) : res_main_while0b_v8 V = word (n / 512) := by
  unfold res_main_while0b_v8
  rw [h.count]
  exact word_div (by omega)

/-- A trip's column. -/
theorem col_eq (h : Reached x y n V) (hn : n < 262144) : res_main_while0b_v9 V = word (n % 512) := by
  unfold res_main_while0b_v9
  rw [h.count]
  exact word_rem (by omega)

/-- The difference of the two sequence entries that a trip compares. -/
theorem diff_eq (h : Reached x y n V) (hn : n < 262144) :
    res_main_while0b_v22 V = fun _ => FloatOps.subf (seqOf x (n / 512)) (seqOf y (n % 512)) := by
  unfold res_main_while0b_v22
  rw [row_eq h hn, col_eq h hn, h.xs, h.ys, unwrapped (by omega), unwrapped (by omega)]
  unfold seqOf
  rw [dif_pos (show n / 512 < 512 by omega), dif_pos (show n % 512 < 512 by omega)]
  funext z
  exact congrArg₂ FloatOps.subf (congrFun (read_place x (n / 512) (by omega)) z) (congrFun (read_place y (n % 512) (by omega)) z)

/-- The table after one more trip. -/
theorem step_table (h : Reached x y n V) (hn : n < 262144) (a b : Fin 513) (hab : Done (n + 1) a.val b.val) :
    (step_main_v5_4 V : FVec F S513x513 .f32) (ix2 a b) = table (seqOf x) (seqOf y) a.val b.val := by
  unfold step_main_v5_4 res_main_while0b_v25 res_main_while0b_v26 res_main_while0b_v36 res_main_while0b_v37
    res_main_while0b_v46 res_main_while0b_v47 res_main_while0b_v59 res_main_while0b_v60
  rw [row_eq h hn, col_eq h hn, diff_eq h hn]
  simp only [id]
  have wrap : ∀ k, k < 2 ^ 30 → ∀ a, select (cmpi .slt (addi (word k) (constantI S_ 32 1#32)) (constantI S_ 32 0#32)) a
      (addi (word k) (constantI S_ 32 1#32)) = word (k + 1) := fun k hk a => by rw [word_add k 1]; exact unwrapped (by omega) a
  rw [wrap (n / 512) (by omega), wrap (n % 512) (by omega), unwrapped (show n / 512 < 2 ^ 31 by omega),
    unwrapped (show n % 512 < 2 ^ 31 by omega)]
  refine (write_entry _ _ (n / 512 + 1) (n % 512 + 1) (by omega) (by omega) a b).trans ?_
  by_cases hp : a.val = n / 512 + 1 ∧ b.val = n % 512 + 1
  · rw [if_pos hp, hp.1, hp.2, table]
    refine congrArg₂ FloatOps.addf rfl (congrArg₂ FloatOps.minimumf (congrArg₂ FloatOps.minimumf ?_ ?_) ?_)
    · exact (congrFun (read_entry _ (n / 512) (n % 512 + 1) (by omega) (by omega)) _).trans
        (h.cells ⟨n / 512, _⟩ ⟨n % 512 + 1, _⟩ (by unfold Done; simp only; omega))
    · exact (congrFun (read_entry _ (n / 512 + 1) (n % 512) (by omega) (by omega)) _).trans
        (h.cells ⟨n / 512 + 1, _⟩ ⟨n % 512, _⟩ (by unfold Done; simp only; omega))
    · exact (congrFun (read_entry _ (n / 512) (n % 512) (by omega) (by omega)) _).trans
        (h.cells ⟨n / 512, _⟩ ⟨n % 512, _⟩ (by unfold Done; simp only; omega))
  · rw [if_neg hp]
    refine h.cells a b ?_
    unfold Done at hab ⊢
    omega

/-- A trip fills its cell. -/
theorem step_reached (h : Reached x y n V) (hn : n < 262144) : Reached x y (n + 1) (STEP V) where
  xs := (STEP_main_v5_0 V).trans h.xs
  ys := (STEP_main_v5_1 V).trans h.ys
  count := by
    rw [STEP_main_v5_3]; unfold step_main_v5_3
    rw [h.count]; exact word_add n 1
  cells a b hab := by
    rw [STEP_main_v5_4]; exact step_table h hn a b hab

/-- After any number of trips. -/
theorem iterate_reached (h : Reached x y 0 V) : ∀ n, n ≤ 262144 → Reached x y n (STEP^[n] V)
  | 0, _ => h
  | n + 1, hn => by
    rw [Function.iterate_succ_apply']
    exact step_reached (iterate_reached h n (by omega)) (by omega)

variable (m : (ℓ : Loc nD τ sig) → Buf (Elt F) ℓ) (ρ : Dev nD → PrngReg)

/-- Before the first trip the border is written: the corner zero, the rest of it far. -/
theorem entry_reached (c : Dev nD) : Reached (m ((c.tc : Thread nD τ).loc main_arg0)) (m ((c.tc : Thread nD τ).loc main_arg1)) 0
    (entryContents preI m c) where
  xs := by
    simp only [entryContents, afterL_cons, afterL_nil]
    after_reads_simp
    rfl
  ys := by
    simp only [entryContents, afterL_cons, afterL_nil]
    after_reads_simp
    rfl
  count := by
    simp only [entryContents, afterL_cons, afterL_nil]
    after_reads_simp
    rfl
  cells a b hab := by
    have e : entryContents preI m c (Proc.devRef .tc main_v5_4)
        = Host.scatter scatter_S513x513_S2_S__n_01_01_0 (fun _ b => b) (fun _ => far) (pair 0 0) (fun _ => start) := by
      simp only [entryContents, afterL_cons, afterL_nil]
      after_reads_simp
      rfl
    rw [e]
    refine (write_entry _ _ 0 0 (by omega) (by omega) a b).trans ?_
    unfold Done at hab
    rcases Nat.eq_zero_or_pos a.val with ha | ha
    · rcases Nat.eq_zero_or_pos b.val with hb | hb
      · rw [if_pos ⟨ha, hb⟩, ha, hb, table]
      · obtain ⟨k, hk⟩ : ∃ k, b.val = k + 1 := ⟨b.val - 1, by omega⟩
        rw [if_neg (by omega), ha, hk, table]
    · obtain ⟨k, hk⟩ : ∃ k, a.val = k + 1 := ⟨a.val - 1, by omega⟩
      have hb : b.val = 0 := by omega
      rw [if_neg (by omega), hb, hk, table]

/-- Every run of the reference ends with the square roots of the table, and with the arguments as they were. -/
theorem reference_run : θ_run (defs (F := F)) (onTc (τ := τ) (main (F := F))) ⟨m, fun _ => 0, ρ⟩ fun r => ∀ c : Dev nD,
      r.2.mem ((c.tc : Thread nD τ).loc main_v6) = (fun p : S513x513.Idx => FloatOps.hostUnary .sqrt
        (table (seqOf (m ((c.tc : Thread nD τ).loc main_arg0))) (seqOf (m ((c.tc : Thread nD τ).loc main_arg1))) (p 0).val (p 1).val))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      have hr := iterate_reached (entry_reached m c) 262144 le_rfl
      unfold out_main_v6
      funext p
      obtain ⟨a, b, rfl⟩ : ∃ (a b : Fin 513), p = ix2 a b := ⟨p 0, p 1, eq_ix2 p⟩
      refine congrArg (FloatOps.hostUnary .sqrt) (hr.cells a b ?_)
      have ha := a.isLt; have hb := b.isLt
      unfold Done; omega), (h c).2⟩) (Cert.ReferenceIdeal.Value.run m ρ)

/-- The reference's frame; it has no counters. -/
theorem reference_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩)
    (Cert.ReferenceIdeal.Value.run m ρ)

end Cert.Cells

end
-- ==== Proof.lean ====
module

public import proofs.«01_k».proof.Defs
public import proofs.«01_k».proof.Proof.Gen.Kernel
public import proofs.«01_k».proof.Proof.Words
public import proofs.«01_k».proof.Proof.Gen.KernelIdeal
public import proofs.«01_k».proof.Proof.Gen.ReferenceIdeal
public import proofs.«01_k».proof.Proof.KernelRun
public import proofs.«01_k».proof.Proof.RefValue

@[expose] public section

noncomputable section

namespace Cert.Proof

open Idealize.ShloMosaic Idealize.SL.Sem Cert.Kernel

/-- From equal arguments the reference ends with the result the kernel ends with. -/
theorem same_result : algebraic_KernelIdeal_ReferenceIdeal := fun m g m' g' _ hargs =>
  ⟨fun c => Cert.Diagonals.result m c, Cert.Diagonals.kernel_run m g,
    (θ_run _ _ _).mono (fun r h c => ⟨(h c).1.trans (by rw [(hargs c).1, (hargs c).2]; rfl), (h c).2⟩)
      (Cert.Cells.reference_run m' g')⟩

/-- All five claims. -/
theorem claim : Cert.Claim := ⟨Cert.Kernel.Gen.facts, Cert.KernelIdeal.Gen.facts, Cert.ReferenceIdeal.Gen.facts,
  fun m ρ _ => Cert.Words.kernel_frame m ρ, fun m ρ _ => Cert.Diagonals.kernel_frame m ρ,
  fun m ρ _ => Cert.Cells.reference_frame m ρ, trivial, same_result⟩

end Cert.Proof

end
